-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_v208) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) : IVec S_ 1 :=
  let main_v0 : FVec F S128x100000 .f32 := Host.absf main_arg0
  let main_cst : FVec F S_ .f32 := constant S_ .f32 0x40E00000#32
  let main_v1 : FVec F S128x100000 .f32 := broadcastInDim S128x100000 ![] bcast_S_S128x100000 main_cst
  let main_v2 : IVec S128x100000 1 := cmpf .ole main_v0 main_v1
  let main_c : IVec S_ 1 := constantI S_ 1 1#1
  let main_v3 : IVec S_ 1 := (fun x v => Host.reduce IntOp.andi x v reducesTo_S128x100000_S_d0_1 h_S_) main_v2 main_c
  main_v3
-- ==== Kernel.lean ====
abbrev S128x100000 : Shape := ⟨2, ![128, 100000]⟩
abbrev S128x1 : Shape := ⟨2, ![128, 1]⟩
abbrev S16x100000 : Shape := ⟨2, ![16, 100000]⟩
abbrev S16x1 : Shape := ⟨2, ![16, 1]⟩
abbrev S16x256 : Shape := ⟨2, ![16, 256]⟩
abbrev S16x160 : Shape := ⟨2, ![16, 160]⟩
abbrev S16x96 : Shape := ⟨2, ![16, 96]⟩
abbrev S16 : Shape := ⟨1, ![16]⟩

abbrev nBuf : Space → Nat
  | .hbm => 3
  | .vmem => 6
  | .smem => 0
  | _ => 0

abbrev bufTy : (tb : Table) → Fin (tcTables nBuf tb) → BufTy
  | .hbm, ⟨0, _⟩ => ⟨S128x100000, .f32⟩
  | .hbm, ⟨1, _⟩ => ⟨S128x1, .i32⟩
  | .hbm, ⟨2, _⟩ => ⟨S128x1, .f32⟩
  | .local _ .vmem, ⟨0, _⟩ => ⟨S16x100000, .f32⟩
  | .local _ .vmem, ⟨1, _⟩ => ⟨S16x100000, .f32⟩
  | .local _ .vmem, ⟨2, _⟩ => ⟨S16x1, .i32⟩
  | .local _ .vmem, ⟨3, _⟩ => ⟨S16x1, .i32⟩
  | .local _ .vmem, ⟨4, _⟩ => ⟨S16x1, .f32⟩
  | .local _ .vmem, ⟨5, _⟩ => ⟨S16x1, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c390_i32 : BitVec 32 := 390#32
  let v13 : BitVec 32 := Scalar.addi c0_i32 c390_i32
  let c1_i32 : BitVec 32 := 1#32
  ⟨c0_i32, v13, c1_i32⟩
def k0_off1 (k0_t1 : Fin k0_t1_loop.trips) : Fin 2 → Nat :=
  let c0_51 : Index := 0#32
  let c0_i32 : BitVec 32 := 0#32
  let c1_i32 : BitVec 32 := 1#32
  let arg4 : BitVec 32 := Scf.iv c0_i32 c1_i32 k0_t1
  let c256_i32_50 : BitVec 32 := 256#32
  let v224 : BitVec 32 := Scalar.muli arg4 c256_i32_50
  let v225 : Index := Scalar.indexCast v224
  ![0, v225.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 302
  | .vmem => 0
  | .smem => 0
  | _ => 0

abbrev hbmTy0_0 (i : Nat) : BufTy := match i % 128 with
  | 0 => ⟨S128x100000, .f32⟩
  | 1 => ⟨S_, .f32⟩
  | 2 => ⟨S128, .f32⟩
  | 3 => ⟨S_, .f32⟩
  | 4 => ⟨S128, .f32⟩
  | 5 => ⟨S128, .f32⟩
  | 6 => ⟨S128x1, .f32⟩
  | 7 => ⟨S128x100000, .f32⟩
  | 8 => ⟨S128x100000, .f32⟩
  | 9 => ⟨S128x100000, .f32⟩
  | 10 => ⟨S_, .f32⟩
  | 11 => ⟨S128, .f32⟩
  | 12 => ⟨S128x1, .f32⟩
  | 13 => ⟨S128x100000, .f32⟩
  | 14 => ⟨S128x100000, .f32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S_, .i32⟩
  | 22 => ⟨S128x100000, .i32⟩
  | 23 => ⟨S_, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S_, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S_, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S128x100000, .i32⟩
  | 46 => ⟨S128x100000, .i32⟩
  | 47 => ⟨S128x100000, .i32⟩
  | 48 => ⟨S_, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S128x100000, .i32⟩
  | 55 => ⟨S128x100000, .i32⟩
  | 56 => ⟨S128x100000, .i32⟩
  | 57 => ⟨S_, .i32⟩
  | 58 => ⟨S128x100000, .i32⟩
  | 59 => ⟨S128x100000, .i32⟩
  | 60 => ⟨S_, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S_, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S128x100000, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S128x100000, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S_, .i32⟩
  | 34 => ⟨S128x100000, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S_, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S_, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S128x100000, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S128x100000, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S_, .i32⟩
  | 104 => ⟨S128x100000, .i32⟩
  | 105 => ⟨S128x100000, .i32⟩
  | 106 => ⟨S128x100000, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S_, .i32⟩
  | 113 => ⟨S128x100000, .i32⟩
  | 114 => ⟨S128x100000, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S128x100000, .i32⟩
  | 127 => ⟨S_, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S128x100000, .f32⟩
  | 6 => ⟨S_, .f32⟩
  | 7 => ⟨S128x100000, .f32⟩
  | 8 => ⟨S128x100000, .f32⟩
  | 9 => ⟨S_, .f32⟩
  | 10 => ⟨S128x100000, .f32⟩
  | 11 => ⟨S128x100000, .f32⟩
  | 12 => ⟨S128x100000, .f32⟩
  | 13 => ⟨S128x100000, .f32⟩
  | 14 => ⟨S128x100000, .f32⟩
  | 15 => ⟨S128x100000, .f32⟩
  | 16 => ⟨S128x100000, .i32⟩
  | 17 => ⟨S_, .f32⟩
  | 18 => ⟨S_, .i32⟩
  | 19 => ⟨S128, .f32⟩
  | 20 => ⟨S128, .i32⟩
  | 21 => ⟨S128x100000, .f32⟩
  | 22 => ⟨S128x1, .i32⟩
  | 23 => ⟨S_, .i32⟩
  | 24 => ⟨S128x1, .i32⟩
  | 25 => ⟨S128x1, .i1⟩
  | 26 => ⟨S_, .i32⟩
  | 27 => ⟨S128x1, .i32⟩
  | 28 => ⟨S128x1, .i32⟩
  | 29 => ⟨S128x1, .i32⟩
  | 30 => ⟨S128x1x1, .i32⟩
  | 31 => ⟨S1, .i32⟩
  | 32 => ⟨S_, .i32⟩
  | 33 => ⟨S128x1x1, .i32⟩
  | 34 => ⟨S128x1x1, .i1⟩
  | 35 => ⟨S1x1x1, .i32⟩
  | 36 => ⟨S128x1x1, .i32⟩
  | 37 => ⟨S128x1x1, .i1⟩
  | 38 => ⟨S128x1x1, .i1⟩
  | 39 => ⟨S_, .i1⟩
  | 40 => ⟨S128x1, .i1⟩
  | 41 => ⟨S128x1, .f32⟩
  | 42 => ⟨S_, .f32⟩
  | 43 => ⟨S128x1, .f32⟩
  | 44 => ⟨S128x1, .f32⟩
  | 45 => ⟨S128x1, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_9 : Ref sig .tc := ⟨.hbm, 48, rfl⟩
abbrev main_v36 : Ref sig .tc := ⟨.hbm, 49, rfl⟩
abbrev main_v37 : Ref sig .tc := ⟨.hbm, 50, rfl⟩
abbrev main_c_10 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_11 : Ref sig .tc := ⟨.hbm, 57, rfl⟩
abbrev main_v43 : Ref sig .tc := ⟨.hbm, 58, rfl⟩
abbrev main_v44 : Ref sig .tc := ⟨.hbm, 59, rfl⟩
abbrev main_c_12 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_13 : Ref sig .tc := ⟨.hbm, 65, rfl⟩
abbrev main_v49 : Ref sig .tc := ⟨.hbm, 66, rfl⟩
abbrev main_v50 : Ref sig .tc := ⟨.hbm, 67, rfl⟩
abbrev main_c_14 : Ref sig .tc := ⟨.hbm, 68, rfl⟩
abbrev main_v51 : Ref sig .tc := ⟨.hbm, 69, rfl⟩
abbrev main_v52 : Ref sig .tc := ⟨.hbm, 70, rfl⟩
abbrev main_c_15 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_16 : Ref sig .tc := ⟨.hbm, 75, rfl⟩
abbrev main_v56 : Ref sig .tc := ⟨.hbm, 76, rfl⟩
abbrev main_v57 : Ref sig .tc := ⟨.hbm, 77, rfl⟩
abbrev main_c_17 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_18 : Ref sig .tc := ⟨.hbm, 84, rfl⟩
abbrev main_v63 : Ref sig .tc := ⟨.hbm, 85, rfl⟩
abbrev main_v64 : Ref sig .tc := ⟨.hbm, 86, rfl⟩
abbrev main_c_19 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_20 : Ref sig .tc := ⟨.hbm, 93, rfl⟩
abbrev main_v70 : Ref sig .tc := ⟨.hbm, 94, rfl⟩
abbrev main_v71 : Ref sig .tc := ⟨.hbm, 95, rfl⟩
abbrev main_c_21 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_22 : Ref sig .tc := ⟨.hbm, 102, rfl⟩
abbrev main_v77 : Ref sig .tc := ⟨.hbm, 103, rfl⟩
abbrev main_v78 : Ref sig .tc := ⟨.hbm, 104, rfl⟩
abbrev main_c_23 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_24 : Ref sig .tc := ⟨.hbm, 110, rfl⟩
abbrev main_v83 : Ref sig .tc := ⟨.hbm, 111, rfl⟩
abbrev main_v84 : Ref sig .tc := ⟨.hbm, 112, rfl⟩
abbrev main_c_25 : Ref sig .tc := ⟨.hbm, 113, rfl⟩
abbrev main_v85 : Ref sig .tc := ⟨.hbm, 114, rfl⟩
abbrev main_v86 : Ref sig .tc := ⟨.hbm, 115, rfl⟩
abbrev main_c_26 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_27 : Ref sig .tc := ⟨.hbm, 120, rfl⟩
abbrev main_v90 : Ref sig .tc := ⟨.hbm, 121, rfl⟩
abbrev main_v91 : Ref sig .tc := ⟨.hbm, 122, rfl⟩
abbrev main_c_28 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_29 : Ref sig .tc := ⟨.hbm, 129, rfl⟩
abbrev main_v97 : Ref sig .tc := ⟨.hbm, 130, rfl⟩
abbrev main_v98 : Ref sig .tc := ⟨.hbm, 131, rfl⟩
abbrev main_c_30 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_31 : Ref sig .tc := ⟨.hbm, 138, rfl⟩
abbrev main_v104 : Ref sig .tc := ⟨.hbm, 139, rfl⟩
abbrev main_v105 : Ref sig .tc := ⟨.hbm, 140, rfl⟩
abbrev main_c_32 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_c_33 : Ref sig .tc := ⟨.hbm, 147, rfl⟩
abbrev main_v111 : Ref sig .tc := ⟨.hbm, 148, rfl⟩
abbrev main_v112 : Ref sig .tc := ⟨.hbm, 149, rfl⟩
abbrev main_c_34 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_c_35 : Ref sig .tc := ⟨.hbm, 155, rfl⟩
abbrev main_v117 : Ref sig .tc := ⟨.hbm, 156, rfl⟩
abbrev main_v118 : Ref sig .tc := ⟨.hbm, 157, rfl⟩
abbrev main_c_36 : Ref sig .tc := ⟨.hbm, 158, rfl⟩
abbrev main_v119 : Ref sig .tc := ⟨.hbm, 159, rfl⟩
abbrev main_v120 : Ref sig .tc := ⟨.hbm, 160, rfl⟩
abbrev main_c_37 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_c_38 : Ref sig .tc := ⟨.hbm, 165, rfl⟩
abbrev main_v124 : Ref sig .tc := ⟨.hbm, 166, rfl⟩
abbrev main_v125 : Ref sig .tc := ⟨.hbm, 167, rfl⟩
abbrev main_c_39 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_c_40 : Ref sig .tc := ⟨.hbm, 174, rfl⟩
abbrev main_v131 : Ref sig .tc := ⟨.hbm, 175, rfl⟩
abbrev main_v132 : Ref sig .tc := ⟨.hbm, 176, rfl⟩
abbrev main_c_41 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_c_42 : Ref sig .tc := ⟨.hbm, 183, rfl⟩
abbrev main_v138 : Ref sig .tc := ⟨.hbm, 184, rfl⟩
abbrev main_v139 : Ref sig .tc := ⟨.hbm, 185, rfl⟩
abbrev main_c_43 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_c_44 : Ref sig .tc := ⟨.hbm, 192, rfl⟩
abbrev main_v145 : Ref sig .tc := ⟨.hbm, 193, rfl⟩
abbrev main_v146 : Ref sig .tc := ⟨.hbm, 194, rfl⟩
abbrev main_c_45 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_c_46 : Ref sig .tc := ⟨.hbm, 200, rfl⟩
abbrev main_v151 : Ref sig .tc := ⟨.hbm, 201, rfl⟩
abbrev main_v152 : Ref sig .tc := ⟨.hbm, 202, rfl⟩
abbrev main_c_47 : Ref sig .tc := ⟨.hbm, 203, rfl⟩
abbrev main_v153 : Ref sig .tc := ⟨.hbm, 204, rfl⟩
abbrev main_v154 : Ref sig .tc := ⟨.hbm, 205, rfl⟩
abbrev main_c_48 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_49 : Ref sig .tc := ⟨.hbm, 210, rfl⟩
abbrev main_v158 : Ref sig .tc := ⟨.hbm, 211, rfl⟩
abbrev main_v159 : Ref sig .tc := ⟨.hbm, 212, rfl⟩
abbrev main_c_50 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_c_51 : Ref sig .tc := ⟨.hbm, 219, rfl⟩
abbrev main_v165 : Ref sig .tc := ⟨.hbm, 220, rfl⟩
abbrev main_v166 : Ref sig .tc := ⟨.hbm, 221, rfl⟩
abbrev main_c_52 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_c_53 : Ref sig .tc := ⟨.hbm, 228, rfl⟩
abbrev main_v172 : Ref sig .tc := ⟨.hbm, 229, rfl⟩
abbrev main_v173 : Ref sig .tc := ⟨.hbm, 230, rfl⟩
abbrev main_c_54 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_c_55 : Ref sig .tc := ⟨.hbm, 237, rfl⟩
abbrev main_v179 : Ref sig .tc := ⟨.hbm, 238, rfl⟩
abbrev main_v180 : Ref sig .tc := ⟨.hbm, 239, rfl⟩
abbrev main_c_56 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_c_57 : Ref sig .tc := ⟨.hbm, 245, rfl⟩
abbrev main_v185 : Ref sig .tc := ⟨.hbm, 246, rfl⟩
abbrev main_v186 : Ref sig .tc := ⟨.hbm, 247, rfl⟩
abbrev main_c_58 : Ref sig .tc := ⟨.hbm, 248, rfl⟩
abbrev main_v187 : Ref sig .tc := ⟨.hbm, 249, rfl⟩
abbrev main_v188 : Ref sig .tc := ⟨.hbm, 250, rfl⟩
abbrev main_c_59 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_c_60 : Ref sig .tc := ⟨.hbm, 255, rfl⟩
abbrev main_v192 : Ref sig .tc := ⟨.hbm, 256, rfl⟩
abbrev main_v193 : Ref sig .tc := ⟨.hbm, 257, rfl⟩
abbrev main_c_61 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_cst_62 : Ref sig .tc := ⟨.hbm, 262, rfl⟩
abbrev main_v197 : Ref sig .tc := ⟨.hbm, 263, rfl⟩
abbrev main_v198 : Ref sig .tc := ⟨.hbm, 264, rfl⟩
abbrev main_cst_63 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_call0_v0 : Ref sig .tc := ⟨.hbm, 272, rfl⟩
abbrev main_call0_cst : Ref sig .tc := ⟨.hbm, 273, rfl⟩
abbrev main_call0_c : Ref sig .tc := ⟨.hbm, 274, rfl⟩
abbrev main_call0_v1_0 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_call1_c : Ref sig .tc := ⟨.hbm, 279, rfl⟩
abbrev main_call1_v0 : Ref sig .tc := ⟨.hbm, 280, rfl⟩
abbrev main_call1_v1 : Ref sig .tc := ⟨.hbm, 281, rfl⟩
abbrev main_call1_c_0 : Ref sig .tc := ⟨.hbm, 282, rfl⟩
abbrev main_call1_v2 : Ref sig .tc := ⟨.hbm, 283, rfl⟩
abbrev main_call1_v3 : Ref sig .tc := ⟨.hbm, 284, rfl⟩
abbrev main_call1_v4 : Ref sig .tc := ⟨.hbm, 285, rfl⟩
abbrev main_call1_v5 : Ref sig .tc := ⟨.hbm, 286, rfl⟩
abbrev main_call1_c_1 : Ref sig .tc := ⟨.hbm, 287, rfl⟩
abbrev main_call1_c_2 : Ref sig .tc := ⟨.hbm, 288, rfl⟩
abbrev main_call1_v6 : Ref sig .tc := ⟨.hbm, 289, rfl⟩
abbrev main_call1_v7 : Ref sig .tc := ⟨.hbm, 290, rfl⟩
abbrev main_call1_v8 : Ref sig .tc := ⟨.hbm, 291, rfl⟩
abbrev main_call1_v9 : Ref sig .tc := ⟨.hbm, 292, rfl⟩
abbrev main_call1_v10 : Ref sig .tc := ⟨.hbm, 293, rfl⟩
abbrev main_call1_v11 : Ref sig .tc := ⟨.hbm, 294, rfl⟩
abbrev main_call1_c_3 : Ref sig .tc := ⟨.hbm, 295, rfl⟩
abbrev main_call1_v12 : Ref sig .tc := ⟨.hbm, 296, rfl⟩
abbrev main_call1_v13 : Ref sig .tc := ⟨.hbm, 297, rfl⟩
abbrev main_call1_cst : Ref sig .tc := ⟨.hbm, 298, rfl⟩
abbrev main_call1_v14 : Ref sig .tc := ⟨.hbm, 299, rfl⟩
abbrev main_v208 : Ref sig .tc := ⟨.hbm, 300, rfl⟩
abbrev main_v209 : Ref sig .tc := ⟨.hbm, 301, rfl⟩

abbrev nD : Nat := 1
abbrev τ : Topo := Topo.v7x

variable {F : FTy → Type} [FloatOps F]
-- ==== Proof.RefRun.lean ====
/-
  The run of the reference: its @main as the list of its 301 host operations, and every terminating execution's
  result buffers as the operations' composed terms of the features, read window by window. The arg-max is a reduce of
  two operands with two results, each result an operation of four operands.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Run

open Cert.ReferenceIdeal Cert.ReferenceIdeal.Gen Idealize.ShloMosaic Idealize.ShloMosaic.TcCoe Idealize.SL.Sem Idealize.ShloMosaic.StableHlo

/-- An array of one 32-bit word per entry of the feature matrix. -/
abbrev BigI (F : FTy → Type) := (⟨S128x100000, .i32⟩ : BufTy).Contents (Elt F)
/-- An array of one number per entry of the feature matrix. -/
abbrev BigF (F : FTy → Type) := (⟨S128x100000, .f32⟩ : BufTy).Contents (Elt F)

variable {F : FTy → Type} [FloatOps F]

/-- @main's operations 1 … 60 of 301 (window `main_part0`). -/
abbrev ops_part0 : List (HloOp τ sig (Elt F)) :=
  [ nullary main_cst (constant S_ .f32 0xFF800000#32),
    binary main_arg0 main_cst main_v0 ((fun x v => Host.reduce FloatOps.maximumf x v reducesTo_S128x100000_S128_d1 h_S_) : BigF F → (⟨S_, .f32⟩ : BufTy).Contents (Elt F) → (⟨S128, .f32⟩ : BufTy).Contents (Elt F)),
    nullary main_cst_0 (constant S_ .f32 0xFF800000#32),
    unary main_cst_0 main_v1 (broadcastInDim S128 ![] bcast_S_S128 : (⟨S_, .f32⟩ : BufTy).Contents (Elt F) → (⟨S128, .f32⟩ : BufTy).Contents (Elt F)),
    binary main_v1 main_v0 main_v2 (maximumf : (⟨S128, .f32⟩ : BufTy).Contents (Elt F) → (⟨S128, .f32⟩ : BufTy).Contents (Elt F) → (⟨S128, .f32⟩ : BufTy).Contents (Elt F)),
    unary main_v2 main_v3 (broadcastInDim S128x1 ![0] bcast_S128_S128x1_0 : (⟨S128, .f32⟩ : BufTy).Contents (Elt F) → (⟨S128x1, .f32⟩ : BufTy).Contents (Elt F)),
    unary main_v3 main_v4 (broadcastInDim S128x100000 ![0, 1] bcast_S128x1_S128x100000_0_1 : (⟨S128x1, .f32⟩ : BufTy).Contents (Elt F) → BigF F),
    binary main_arg0 main_v4 main_v5 (subf : BigF F → BigF F → BigF F),
    unary main_v5 main_v6 (Host.exp : BigF F → BigF F),
    nullary main_cst_1 (constant S_ .f32 0x00000000#32),
    binary main_v6 main_cst_1 main_v7 ((fun x v => Host.reduceAdd x v reducesTo_S128x100000_S128_d1 h_S_) : BigF F → (⟨S_, .f32⟩ : BufTy).Contents (Elt F) → (⟨S128, .f32⟩ : BufTy).Contents (Elt F)),
    unary main_v7 main_v8 (broadcastInDim S128x1 ![0] bcast_S128_S128x1_0 : (⟨S128, .f32⟩ : BufTy).Contents (Elt F) → (⟨S128x1, .f32⟩ : BufTy).Contents (Elt F)),
    unary main_v8 main_v9 (broadcastInDim S128x100000 ![0, 1] bcast_S128x1_S128x100000_0_1 : (⟨S128x1, .f32⟩ : BufTy).Contents (Elt F) → BigF F),
    binary main_v6 main_v9 main_v10 (Host.divf : BigF F → BigF F → BigF F),
    nullary main_v11 (iotaInDim S128x100000 32 0),
    nullary main_c (constantI S_ 32 100000#32),
    unary main_c main_v12 (broadcastInDim S128x100000 ![] bcast_S_S128x100000 : (⟨S_, .i32⟩ : BufTy).Contents (Elt F) → BigI F),
    binary main_v11 main_v12 main_v13 (muli : BigI F → BigI F → BigI F),
    nullary main_v14 (iotaInDim S128x100000 32 1),
    binary main_v13 main_v14 main_v15 (addi : BigI F → BigI F → BigI F),
    nullary main_c_2 (constantI S_ 32 0#32),
    unary main_c_2 main_v16 (broadcastInDim S128x100000 ![] bcast_S_S128x100000 : (⟨S_, .i32⟩ : BufTy).Contents (Elt F) → BigI F),
    nullary main_c_3 (constantI S_ 32 0#32),
    unary main_c_3 main_v17 (broadcastInDim S128x100000 ![] bcast_S_S128x100000 : (⟨S_, .i32⟩ : BufTy).Contents (Elt F) → BigI F),
    binary main_v16 main_v17 main_v18 (addi : BigI F → BigI F → BigI F),
    nullary main_c_4 (constantI S_ 32 42#32),
    unary main_c_4 main_v19 (broadcastInDim S128x100000 ![] bcast_S_S128x100000 : (⟨S_, .i32⟩ : BufTy).Contents (Elt F) → BigI F),
    binary main_v15 main_v19 main_v20 (addi : BigI F → BigI F → BigI F),
    binary main_v18 main_v20 main_v21 (addi : BigI F → BigI F → BigI F),
    nullary main_c_5 (constantI S_ 32 13#32),
    unary main_c_5 main_v22 (broadcastInDim S128x100000 ![] bcast_S_S128x100000 : (⟨S_, .i32⟩ : BufTy).Contents (Elt F) → BigI F),
    binary main_v20 main_v22 main_v23 (Host.shli : BigI F → BigI F → BigI F),
    nullary main_c_6 (constantI S_ 32 19#32),
    unary main_c_6 main_v24 (broadcastInDim S128x100000 ![] bcast_S_S128x100000 : (⟨S_, .i32⟩ : BufTy).Contents (Elt F) → BigI F),
    binary main_v20 main_v24 main_v25 (Host.shrui : BigI F → BigI F → BigI F),
    binary main_v23 main_v25 main_v26 (ori : BigI F → BigI F → BigI F),
    binary main_v21 main_v26 main_v27 (xori : BigI F → BigI F → BigI F),
    binary main_v21 main_v27 main_v28 (addi : BigI F → BigI F → BigI F),
    nullary main_c_7 (constantI S_ 32 15#32),
    unary main_c_7 main_v29 (broadcastInDim S128x100000 ![] bcast_S_S128x100000 : (⟨S_, .i32⟩ : BufTy).Contents (Elt F) → BigI F),
    binary main_v27 main_v29 main_v30 (Host.shli : BigI F → BigI F → BigI F),
    nullary main_c_8 (constantI S_ 32 17#32),
    unary main_c_8 main_v31 (broadcastInDim S128x100000 ![] bcast_S_S128x100000 : (⟨S_, .i32⟩ : BufTy).Contents (Elt F) → BigI F),
    binary main_v27 main_v31 main_v32 (Host.shrui : BigI F → BigI F → BigI F),
    binary main_v30 main_v32 main_v33 (ori : BigI F → BigI F → BigI F),
    binary main_v28 main_v33 main_v34 (xori : BigI F → BigI F → BigI F),
    binary main_v28 main_v34 main_v35 (addi : BigI F → BigI F → BigI F),
    nullary main_c_9 (constantI S_ 32 26#32),
    unary main_c_9 main_v36 (broadcastInDim S128x100000 ![] bcast_S_S128x100000 : (⟨S_, .i32⟩ : BufTy).Contents (Elt F) → BigI F),
    binary main_v34 main_v36 main_v37 (Host.shli : BigI F → BigI F → BigI F),
    nullary main_c_10 (constantI S_ 32 6#32),
    unary main_c_10 main_v38 (broadcastInDim S128x100000 ![] bcast_S_S128x100000 : (⟨S_, .i32⟩ : BufTy).Contents (Elt F) → BigI F),
    binary main_v34 main_v38 main_v39 (Host.shrui : BigI F → BigI F → BigI F),
    binary main_v37 main_v39 main_v40 (ori : BigI F → BigI F → BigI F),
    binary main_v35 main_v40 main_v41 (xori : BigI F → BigI F → BigI F),
    binary main_v35 main_v41 main_v42 (addi : BigI F → BigI F → BigI F),
    nullary main_c_11 (constantI S_ 32 6#32),
    unary main_c_11 main_v43 (broadcastInDim S128x100000 ![] bcast_S_S128x100000 : (⟨S_, .i32⟩ : BufTy).Contents (Elt F) → BigI F),
    binary main_v41 main_v43 main_v44 (Host.shli : BigI F → BigI F → BigI F),
    nullary main_c_12 (constantI S_ 32 26#32) ]

/-- @main's operations 61 … 120 of 301 (window `main_part1`). -/
abbrev ops_part1 : List (HloOp τ sig (Elt F)) :=
  [ unary main_c_12 main_v45 (broadcastInDim S128x100000 ![] bcast_S_S128x100000 : (⟨S_, .i32⟩ : BufTy).Contents (Elt F) → BigI F),
    binary main_v41 main_v45 main_v46 (Host.shrui : BigI F → BigI F → BigI F),
    binary main_v44 main_v46 main_v47 (ori : BigI F → BigI F → BigI F),
    binary main_v42 main_v47 main_v48 (xori : BigI F → BigI F → BigI F),
    nullary main_c_13 (constantI S_ 32 42#32),
    unary main_c_13 main_v49 (broadcastInDim S128x100000 ![] bcast_S_S128x100000 : (⟨S_, .i32⟩ : BufTy).Contents (Elt F) → BigI F),
    binary main_v42 main_v49 main_v50 (addi : BigI F → BigI F → BigI F),
    nullary main_c_14 (constantI S_ 32 466689008#32),
    unary main_c_14 main_v51 (broadcastInDim S128x100000 ![] bcast_S_S128x100000 : (⟨S_, .i32⟩ : BufTy).Contents (Elt F) → BigI F),
    binary main_v48 main_v51 main_v52 (addi : BigI F → BigI F → BigI F),
    nullary main_c_15 (constantI S_ 32 1#32),
    unary main_c_15 main_v53 (broadcastInDim S128x100000 ![] bcast_S_S128x100000 : (⟨S_, .i32⟩ : BufTy).Contents (Elt F) → BigI F),
    binary main_v52 main_v53 main_v54 (addi : BigI F → BigI F → BigI F),
    binary main_v50 main_v54 main_v55 (addi : BigI F → BigI F → BigI F),
    nullary main_c_16 (constantI S_ 32 17#32),
    unary main_c_16 main_v56 (broadcastInDim S128x100000 ![] bcast_S_S128x100000 : (⟨S_, .i32⟩ : BufTy).Contents (Elt F) → BigI F),
    binary main_v54 main_v56 main_v57 (Host.shli : BigI F → BigI F → BigI F),
    nullary main_c_17 (constantI S_ 32 15#32),
    unary main_c_17 main_v58 (broadcastInDim S128x100000 ![] bcast_S_S128x100000 : (⟨S_, .i32⟩ : BufTy).Contents (Elt F) → BigI F),
    binary main_v54 main_v58 main_v59 (Host.shrui : BigI F → BigI F → BigI F),
    binary main_v57 main_v59 main_v60 (ori : BigI F → BigI F → BigI F),
    binary main_v55 main_v60 main_v61 (xori : BigI F → BigI F → BigI F),
    binary main_v55 main_v61 main_v62 (addi : BigI F → BigI F → BigI F),
    nullary main_c_18 (constantI S_ 32 29#32),
    unary main_c_18 main_v63 (broadcastInDim S128x100000 ![] bcast_S_S128x100000 : (⟨S_, .i32⟩ : BufTy).Contents (Elt F) → BigI F),
    binary main_v61 main_v63 main_v64 (Host.shli : BigI F → BigI F → BigI F),
    nullary main_c_19 (constantI S_ 32 3#32),
    unary main_c_19 main_v65 (broadcastInDim S128x100000 ![] bcast_S_S128x100000 : (⟨S_, .i32⟩ : BufTy).Contents (Elt F) → BigI F),
    binary main_v61 main_v65 main_v66 (Host.shrui : BigI F → BigI F → BigI F),
    binary main_v64 main_v66 main_v67 (ori : BigI F → BigI F → BigI F),
    binary main_v62 main_v67 main_v68 (xori : BigI F → BigI F → BigI F),
    binary main_v62 main_v68 main_v69 (addi : BigI F → BigI F → BigI F),
    nullary main_c_20 (constantI S_ 32 16#32),
    unary main_c_20 main_v70 (broadcastInDim S128x100000 ![] bcast_S_S128x100000 : (⟨S_, .i32⟩ : BufTy).Contents (Elt F) → BigI F),
    binary main_v68 main_v70 main_v71 (Host.shli : BigI F → BigI F → BigI F),
    nullary main_c_21 (constantI S_ 32 16#32),
    unary main_c_21 main_v72 (broadcastInDim S128x100000 ![] bcast_S_S128x100000 : (⟨S_, .i32⟩ : BufTy).Contents (Elt F) → BigI F),
    binary main_v68 main_v72 main_v73 (Host.shrui : BigI F → BigI F → BigI F),
    binary main_v71 main_v73 main_v74 (ori : BigI F → BigI F → BigI F),
    binary main_v69 main_v74 main_v75 (xori : BigI F → BigI F → BigI F),
    binary main_v69 main_v75 main_v76 (addi : BigI F → BigI F → BigI F),
    nullary main_c_22 (constantI S_ 32 24#32),
    unary main_c_22 main_v77 (broadcastInDim S128x100000 ![] bcast_S_S128x100000 : (⟨S_, .i32⟩ : BufTy).Contents (Elt F) → BigI F),
    binary main_v75 main_v77 main_v78 (Host.shli : BigI F → BigI F → BigI F),
    nullary main_c_23 (constantI S_ 32 8#32),
    unary main_c_23 main_v79 (broadcastInDim S128x100000 ![] bcast_S_S128x100000 : (⟨S_, .i32⟩ : BufTy).Contents (Elt F) → BigI F),
    binary main_v75 main_v79 main_v80 (Host.shrui : BigI F → BigI F → BigI F),
    binary main_v78 main_v80 main_v81 (ori : BigI F → BigI F → BigI F),
    binary main_v76 main_v81 main_v82 (xori : BigI F → BigI F → BigI F),
    nullary main_c_24 (constantI S_ 32 466689008#32),
    unary main_c_24 main_v83 (broadcastInDim S128x100000 ![] bcast_S_S128x100000 : (⟨S_, .i32⟩ : BufTy).Contents (Elt F) → BigI F),
    binary main_v76 main_v83 main_v84 (addi : BigI F → BigI F → BigI F),
    nullary main_c_25 (constantI S_ 32 0#32),
    unary main_c_25 main_v85 (broadcastInDim S128x100000 ![] bcast_S_S128x100000 : (⟨S_, .i32⟩ : BufTy).Contents (Elt F) → BigI F),
    binary main_v82 main_v85 main_v86 (addi : BigI F → BigI F → BigI F),
    nullary main_c_26 (constantI S_ 32 2#32),
    unary main_c_26 main_v87 (broadcastInDim S128x100000 ![] bcast_S_S128x100000 : (⟨S_, .i32⟩ : BufTy).Contents (Elt F) → BigI F),
    binary main_v86 main_v87 main_v88 (addi : BigI F → BigI F → BigI F),
    binary main_v84 main_v88 main_v89 (addi : BigI F → BigI F → BigI F),
    nullary main_c_27 (constantI S_ 32 13#32) ]

/-- @main's operations 121 … 180 of 301 (window `main_part2`). -/
abbrev ops_part2 : List (HloOp τ sig (Elt F)) :=
  [ unary main_c_27 main_v90 (broadcastInDim S128x100000 ![] bcast_S_S128x100000 : (⟨S_, .i32⟩ : BufTy).Contents (Elt F) → BigI F),
    binary main_v88 main_v90 main_v91 (Host.shli : BigI F → BigI F → BigI F),
    nullary main_c_28 (constantI S_ 32 19#32),
    unary main_c_28 main_v92 (broadcastInDim S128x100000 ![] bcast_S_S128x100000 : (⟨S_, .i32⟩ : BufTy).Contents (Elt F) → BigI F),
    binary main_v88 main_v92 main_v93 (Host.shrui : BigI F → BigI F → BigI F),
    binary main_v91 main_v93 main_v94 (ori : BigI F → BigI F → BigI F),
    binary main_v89 main_v94 main_v95 (xori : BigI F → BigI F → BigI F),
    binary main_v89 main_v95 main_v96 (addi : BigI F → BigI F → BigI F),
    nullary main_c_29 (constantI S_ 32 15#32),
    unary main_c_29 main_v97 (broadcastInDim S128x100000 ![] bcast_S_S128x100000 : (⟨S_, .i32⟩ : BufTy).Contents (Elt F) → BigI F),
    binary main_v95 main_v97 main_v98 (Host.shli : BigI F → BigI F → BigI F),
    nullary main_c_30 (constantI S_ 32 17#32),
    unary main_c_30 main_v99 (broadcastInDim S128x100000 ![] bcast_S_S128x100000 : (⟨S_, .i32⟩ : BufTy).Contents (Elt F) → BigI F),
    binary main_v95 main_v99 main_v100 (Host.shrui : BigI F → BigI F → BigI F),
    binary main_v98 main_v100 main_v101 (ori : BigI F → BigI F → BigI F),
    binary main_v96 main_v101 main_v102 (xori : BigI F → BigI F → BigI F),
    binary main_v96 main_v102 main_v103 (addi : BigI F → BigI F → BigI F),
    nullary main_c_31 (constantI S_ 32 26#32),
    unary main_c_31 main_v104 (broadcastInDim S128x100000 ![] bcast_S_S128x100000 : (⟨S_, .i32⟩ : BufTy).Contents (Elt F) → BigI F),
    binary main_v102 main_v104 main_v105 (Host.shli : BigI F → BigI F → BigI F),
    nullary main_c_32 (constantI S_ 32 6#32),
    unary main_c_32 main_v106 (broadcastInDim S128x100000 ![] bcast_S_S128x100000 : (⟨S_, .i32⟩ : BufTy).Contents (Elt F) → BigI F),
    binary main_v102 main_v106 main_v107 (Host.shrui : BigI F → BigI F → BigI F),
    binary main_v105 main_v107 main_v108 (ori : BigI F → BigI F → BigI F),
    binary main_v103 main_v108 main_v109 (xori : BigI F → BigI F → BigI F),
    binary main_v103 main_v109 main_v110 (addi : BigI F → BigI F → BigI F),
    nullary main_c_33 (constantI S_ 32 6#32),
    unary main_c_33 main_v111 (broadcastInDim S128x100000 ![] bcast_S_S128x100000 : (⟨S_, .i32⟩ : BufTy).Contents (Elt F) → BigI F),
    binary main_v109 main_v111 main_v112 (Host.shli : BigI F → BigI F → BigI F),
    nullary main_c_34 (constantI S_ 32 26#32),
    unary main_c_34 main_v113 (broadcastInDim S128x100000 ![] bcast_S_S128x100000 : (⟨S_, .i32⟩ : BufTy).Contents (Elt F) → BigI F),
    binary main_v109 main_v113 main_v114 (Host.shrui : BigI F → BigI F → BigI F),
    binary main_v112 main_v114 main_v115 (ori : BigI F → BigI F → BigI F),
    binary main_v110 main_v115 main_v116 (xori : BigI F → BigI F → BigI F),
    nullary main_c_35 (constantI S_ 32 0#32),
    unary main_c_35 main_v117 (broadcastInDim S128x100000 ![] bcast_S_S128x100000 : (⟨S_, .i32⟩ : BufTy).Contents (Elt F) → BigI F),
    binary main_v110 main_v117 main_v118 (addi : BigI F → BigI F → BigI F),
    nullary main_c_36 (constantI S_ 32 42#32),
    unary main_c_36 main_v119 (broadcastInDim S128x100000 ![] bcast_S_S128x100000 : (⟨S_, .i32⟩ : BufTy).Contents (Elt F) → BigI F),
    binary main_v116 main_v119 main_v120 (addi : BigI F → BigI F → BigI F),
    nullary main_c_37 (constantI S_ 32 3#32),
    unary main_c_37 main_v121 (broadcastInDim S128x100000 ![] bcast_S_S128x100000 : (⟨S_, .i32⟩ : BufTy).Contents (Elt F) → BigI F),
    binary main_v120 main_v121 main_v122 (addi : BigI F → BigI F → BigI F),
    binary main_v118 main_v122 main_v123 (addi : BigI F → BigI F → BigI F),
    nullary main_c_38 (constantI S_ 32 17#32),
    unary main_c_38 main_v124 (broadcastInDim S128x100000 ![] bcast_S_S128x100000 : (⟨S_, .i32⟩ : BufTy).Contents (Elt F) → BigI F),
    binary main_v122 main_v124 main_v125 (Host.shli : BigI F → BigI F → BigI F),
    nullary main_c_39 (constantI S_ 32 15#32),
    unary main_c_39 main_v126 (broadcastInDim S128x100000 ![] bcast_S_S128x100000 : (⟨S_, .i32⟩ : BufTy).Contents (Elt F) → BigI F),
    binary main_v122 main_v126 main_v127 (Host.shrui : BigI F → BigI F → BigI F),
    binary main_v125 main_v127 main_v128 (ori : BigI F → BigI F → BigI F),
    binary main_v123 main_v128 main_v129 (xori : BigI F → BigI F → BigI F),
    binary main_v123 main_v129 main_v130 (addi : BigI F → BigI F → BigI F),
    nullary main_c_40 (constantI S_ 32 29#32),
    unary main_c_40 main_v131 (broadcastInDim S128x100000 ![] bcast_S_S128x100000 : (⟨S_, .i32⟩ : BufTy).Contents (Elt F) → BigI F),
    binary main_v129 main_v131 main_v132 (Host.shli : BigI F → BigI F → BigI F),
    nullary main_c_41 (constantI S_ 32 3#32),
    unary main_c_41 main_v133 (broadcastInDim S128x100000 ![] bcast_S_S128x100000 : (⟨S_, .i32⟩ : BufTy).Contents (Elt F) → BigI F),
    binary main_v129 main_v133 main_v134 (Host.shrui : BigI F → BigI F → BigI F),
    binary main_v132 main_v134 main_v135 (ori : BigI F → BigI F → BigI F) ]

/-- @main's operations 181 … 240 of 301 (window `main_part3`). -/
abbrev ops_part3 : List (HloOp τ sig (Elt F)) :=
  [ binary main_v130 main_v135 main_v136 (xori : BigI F → BigI F → BigI F),
    binary main_v130 main_v136 main_v137 (addi : BigI F → BigI F → BigI F),
    nullary main_c_42 (constantI S_ 32 16#32),
    unary main_c_42 main_v138 (broadcastInDim S128x100000 ![] bcast_S_S128x100000 : (⟨S_, .i32⟩ : BufTy).Contents (Elt F) → BigI F),
    binary main_v136 main_v138 main_v139 (Host.shli : BigI F → BigI F → BigI F),
    nullary main_c_43 (constantI S_ 32 16#32),
    unary main_c_43 main_v140 (broadcastInDim S128x100000 ![] bcast_S_S128x100000 : (⟨S_, .i32⟩ : BufTy).Contents (Elt F) → BigI F),
    binary main_v136 main_v140 main_v141 (Host.shrui : BigI F → BigI F → BigI F),
    binary main_v139 main_v141 main_v142 (ori : BigI F → BigI F → BigI F),
    binary main_v137 main_v142 main_v143 (xori : BigI F → BigI F → BigI F),
    binary main_v137 main_v143 main_v144 (addi : BigI F → BigI F → BigI F),
    nullary main_c_44 (constantI S_ 32 24#32),
    unary main_c_44 main_v145 (broadcastInDim S128x100000 ![] bcast_S_S128x100000 : (⟨S_, .i32⟩ : BufTy).Contents (Elt F) → BigI F),
    binary main_v143 main_v145 main_v146 (Host.shli : BigI F → BigI F → BigI F),
    nullary main_c_45 (constantI S_ 32 8#32),
    unary main_c_45 main_v147 (broadcastInDim S128x100000 ![] bcast_S_S128x100000 : (⟨S_, .i32⟩ : BufTy).Contents (Elt F) → BigI F),
    binary main_v143 main_v147 main_v148 (Host.shrui : BigI F → BigI F → BigI F),
    binary main_v146 main_v148 main_v149 (ori : BigI F → BigI F → BigI F),
    binary main_v144 main_v149 main_v150 (xori : BigI F → BigI F → BigI F),
    nullary main_c_46 (constantI S_ 32 42#32),
    unary main_c_46 main_v151 (broadcastInDim S128x100000 ![] bcast_S_S128x100000 : (⟨S_, .i32⟩ : BufTy).Contents (Elt F) → BigI F),
    binary main_v144 main_v151 main_v152 (addi : BigI F → BigI F → BigI F),
    nullary main_c_47 (constantI S_ 32 466689008#32),
    unary main_c_47 main_v153 (broadcastInDim S128x100000 ![] bcast_S_S128x100000 : (⟨S_, .i32⟩ : BufTy).Contents (Elt F) → BigI F),
    binary main_v150 main_v153 main_v154 (addi : BigI F → BigI F → BigI F),
    nullary main_c_48 (constantI S_ 32 4#32),
    unary main_c_48 main_v155 (broadcastInDim S128x100000 ![] bcast_S_S128x100000 : (⟨S_, .i32⟩ : BufTy).Contents (Elt F) → BigI F),
    binary main_v154 main_v155 main_v156 (addi : BigI F → BigI F → BigI F),
    binary main_v152 main_v156 main_v157 (addi : BigI F → BigI F → BigI F),
    nullary main_c_49 (constantI S_ 32 13#32),
    unary main_c_49 main_v158 (broadcastInDim S128x100000 ![] bcast_S_S128x100000 : (⟨S_, .i32⟩ : BufTy).Contents (Elt F) → BigI F),
    binary main_v156 main_v158 main_v159 (Host.shli : BigI F → BigI F → BigI F),
    nullary main_c_50 (constantI S_ 32 19#32),
    unary main_c_50 main_v160 (broadcastInDim S128x100000 ![] bcast_S_S128x100000 : (⟨S_, .i32⟩ : BufTy).Contents (Elt F) → BigI F),
    binary main_v156 main_v160 main_v161 (Host.shrui : BigI F → BigI F → BigI F),
    binary main_v159 main_v161 main_v162 (ori : BigI F → BigI F → BigI F),
    binary main_v157 main_v162 main_v163 (xori : BigI F → BigI F → BigI F),
    binary main_v157 main_v163 main_v164 (addi : BigI F → BigI F → BigI F),
    nullary main_c_51 (constantI S_ 32 15#32),
    unary main_c_51 main_v165 (broadcastInDim S128x100000 ![] bcast_S_S128x100000 : (⟨S_, .i32⟩ : BufTy).Contents (Elt F) → BigI F),
    binary main_v163 main_v165 main_v166 (Host.shli : BigI F → BigI F → BigI F),
    nullary main_c_52 (constantI S_ 32 17#32),
    unary main_c_52 main_v167 (broadcastInDim S128x100000 ![] bcast_S_S128x100000 : (⟨S_, .i32⟩ : BufTy).Contents (Elt F) → BigI F),
    binary main_v163 main_v167 main_v168 (Host.shrui : BigI F → BigI F → BigI F),
    binary main_v166 main_v168 main_v169 (ori : BigI F → BigI F → BigI F),
    binary main_v164 main_v169 main_v170 (xori : BigI F → BigI F → BigI F),
    binary main_v164 main_v170 main_v171 (addi : BigI F → BigI F → BigI F),
    nullary main_c_53 (constantI S_ 32 26#32),
    unary main_c_53 main_v172 (broadcastInDim S128x100000 ![] bcast_S_S128x100000 : (⟨S_, .i32⟩ : BufTy).Contents (Elt F) → BigI F),
    binary main_v170 main_v172 main_v173 (Host.shli : BigI F → BigI F → BigI F),
    nullary main_c_54 (constantI S_ 32 6#32),
    unary main_c_54 main_v174 (broadcastInDim S128x100000 ![] bcast_S_S128x100000 : (⟨S_, .i32⟩ : BufTy).Contents (Elt F) → BigI F),
    binary main_v170 main_v174 main_v175 (Host.shrui : BigI F → BigI F → BigI F),
    binary main_v173 main_v175 main_v176 (ori : BigI F → BigI F → BigI F),
    binary main_v171 main_v176 main_v177 (xori : BigI F → BigI F → BigI F),
    binary main_v171 main_v177 main_v178 (addi : BigI F → BigI F → BigI F),
    nullary main_c_55 (constantI S_ 32 6#32),
    unary main_c_55 main_v179 (broadcastInDim S128x100000 ![] bcast_S_S128x100000 : (⟨S_, .i32⟩ : BufTy).Contents (Elt F) → BigI F),
    binary main_v177 main_v179 main_v180 (Host.shli : BigI F → BigI F → BigI F),
    nullary main_c_56 (constantI S_ 32 26#32) ]

/-- @main's operations 241 … 301 of 301 (window `main_part4`). -/
abbrev ops_part4 : List (HloOp τ sig (Elt F)) :=
  [ unary main_c_56 main_v181 (broadcastInDim S128x100000 ![] bcast_S_S128x100000 : (⟨S_, .i32⟩ : BufTy).Contents (Elt F) → BigI F),
    binary main_v177 main_v181 main_v182 (Host.shrui : BigI F → BigI F → BigI F),
    binary main_v180 main_v182 main_v183 (ori : BigI F → BigI F → BigI F),
    binary main_v178 main_v183 main_v184 (xori : BigI F → BigI F → BigI F),
    nullary main_c_57 (constantI S_ 32 466689008#32),
    unary main_c_57 main_v185 (broadcastInDim S128x100000 ![] bcast_S_S128x100000 : (⟨S_, .i32⟩ : BufTy).Contents (Elt F) → BigI F),
    binary main_v178 main_v185 main_v186 (addi : BigI F → BigI F → BigI F),
    nullary main_c_58 (constantI S_ 32 0#32),
    unary main_c_58 main_v187 (broadcastInDim S128x100000 ![] bcast_S_S128x100000 : (⟨S_, .i32⟩ : BufTy).Contents (Elt F) → BigI F),
    binary main_v184 main_v187 main_v188 (addi : BigI F → BigI F → BigI F),
    nullary main_c_59 (constantI S_ 32 5#32),
    unary main_c_59 main_v189 (broadcastInDim S128x100000 ![] bcast_S_S128x100000 : (⟨S_, .i32⟩ : BufTy).Contents (Elt F) → BigI F),
    binary main_v188 main_v189 main_v190 (addi : BigI F → BigI F → BigI F),
    binary main_v186 main_v190 main_v191 (xori : BigI F → BigI F → BigI F),
    nullary main_c_60 (constantI S_ 32 9#32),
    unary main_c_60 main_v192 (broadcastInDim S128x100000 ![] bcast_S_S128x100000 : (⟨S_, .i32⟩ : BufTy).Contents (Elt F) → BigI F),
    binary main_v191 main_v192 main_v193 (Host.shrui : BigI F → BigI F → BigI F),
    nullary main_c_61 (constantI S_ 32 1065353216#32),
    unary main_c_61 main_v194 (broadcastInDim S128x100000 ![] bcast_S_S128x100000 : (⟨S_, .i32⟩ : BufTy).Contents (Elt F) → BigI F),
    binary main_v193 main_v194 main_v195 (ori : BigI F → BigI F → BigI F),
    unary main_v195 main_v196 (bitcastToFloat (F := F) .f32 : BigI F → BigF F),
    nullary main_cst_62 (constant S_ .f32 0x3F800000#32),
    unary main_cst_62 main_v197 (broadcastInDim S128x100000 ![] bcast_S_S128x100000 : (⟨S_, .f32⟩ : BufTy).Contents (Elt F) → BigF F),
    binary main_v196 main_v197 main_v198 (subf : BigF F → BigF F → BigF F),
    nullary main_cst_63 (constant S_ .f32 0x00800000#32),
    unary main_cst_63 main_v199 (broadcastInDim S128x100000 ![] bcast_S_S128x100000 : (⟨S_, .f32⟩ : BufTy).Contents (Elt F) → BigF F),
    binary main_v199 main_v198 main_v200 (maximumf : BigF F → BigF F → BigF F),
    unary main_v200 main_v201 (Host.log : BigF F → BigF F),
    unary main_v201 main_v202 (Host.negf : BigF F → BigF F),
    unary main_v202 main_v203 (Host.log : BigF F → BigF F),
    binary main_arg0 main_v203 main_v204 (subf : BigF F → BigF F → BigF F),
    TRef.nullary (TRef.of (T := ⟨S128x100000, .i32⟩) main_call0_v0) (iotaInDim S128x100000 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S128x100000, .f32⟩) main_v204) (TRef.of (T := ⟨S128x100000, .i32⟩) main_call0_v0) (TRef.of (T := ⟨S_, .f32⟩) main_call0_cst) (TRef.of (T := ⟨S_, .i32⟩) main_call0_c) (TRef.of (T := ⟨S128, .f32⟩) main_call0_v1_0) (fun x y u v j => (Host.argReduce reducer_argmax_f32_i32 x y u v reducesTo_S128x100000_S128_d1 h_S_ j).1),
    TRef.quaternary (TRef.of (T := ⟨S128x100000, .f32⟩) main_v204) (TRef.of (T := ⟨S128x100000, .i32⟩) main_call0_v0) (TRef.of (T := ⟨S_, .f32⟩) main_call0_cst) (TRef.of (T := ⟨S_, .i32⟩) main_call0_c) (TRef.of (T := ⟨S128, .i32⟩) main_v205) (fun x y u v j => (Host.argReduce reducer_argmax_f32_i32 x y u v reducesTo_S128x100000_S128_d1 h_S_ j).2),
    unary main_v10 main_v206 (Host.log : BigF F → BigF F),
    unary main_v205 main_v207 (broadcastInDim S128x1 ![0] bcast_S128_S128x1_0 : (⟨S128, .i32⟩ : BufTy).Contents (Elt F) → (⟨S128x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S128x1, .i32⟩) main_call1_v0) (broadcastInDim S128x1 ![] bcast_S_S128x1),
    TRef.binary (TRef.of (T := ⟨S128x1, .i32⟩) main_v207) (TRef.of (T := ⟨S128x1, .i32⟩) main_call1_v0) (TRef.of (T := ⟨S128x1, .i1⟩) main_call1_v1) (cmpi .slt),
    TRef.nullary (TRef.of (T := ⟨S_, .i32⟩) main_call1_c_0) (constantI S_ 32 100000#32),
    TRef.unary (TRef.of (T := ⟨S_, .i32⟩) main_call1_c_0) (TRef.of (T := ⟨S128x1, .i32⟩) main_call1_v2) (broadcastInDim S128x1 ![] bcast_S_S128x1),
    TRef.binary (TRef.of (T := ⟨S128x1, .i32⟩) main_v207) (TRef.of (T := ⟨S128x1, .i32⟩) main_call1_v2) (TRef.of (T := ⟨S128x1, .i32⟩) main_call1_v3) addi,
    TRef.ternary (TRef.of (T := ⟨S128x1, .i1⟩) main_call1_v1) (TRef.of (T := ⟨S128x1, .i32⟩) main_call1_v3) (TRef.of (T := ⟨S128x1, .i32⟩) main_v207) (TRef.of (T := ⟨S128x1, .i32⟩) main_call1_v4) select,
    TRef.reshape (TRef.of (T := ⟨S128x1, .i32⟩) main_call1_v4) (TRef.of (T := ⟨S128x1x1, .i32⟩) main_call1_v5) (rfl : (.i32 : EltTy) = .i32) shapeCasts_S128x1_S128x1x1,
    TRef.nullary (TRef.of (T := ⟨S1, .i32⟩) main_call1_c_1) (constantI S1 32 99999#32),
    TRef.nullary (TRef.of (T := ⟨S_, .i32⟩) main_call1_c_2) (constantI S_ 32 0#32),
    TRef.unary (TRef.of (T := ⟨S_, .i32⟩) main_call1_c_2) (TRef.of (T := ⟨S128x1x1, .i32⟩) main_call1_v6) (broadcastInDim S128x1x1 ![] bcast_S_S128x1x1),
    TRef.binary (TRef.of (T := ⟨S128x1x1, .i32⟩) main_call1_v5) (TRef.of (T := ⟨S128x1x1, .i32⟩) main_call1_v6) (TRef.of (T := ⟨S128x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S128x1x1, .i32⟩) main_call1_v9) (broadcastInDim S128x1x1 ![0, 1, 2] bcast_S1x1x1_S128x1x1_0_1_2),
    TRef.binary (TRef.of (T := ⟨S128x1x1, .i32⟩) main_call1_v5) (TRef.of (T := ⟨S128x1x1, .i32⟩) main_call1_v9) (TRef.of (T := ⟨S128x1x1, .i1⟩) main_call1_v10) (cmpi .sle),
    TRef.binary (TRef.of (T := ⟨S128x1x1, .i1⟩) main_call1_v7) (TRef.of (T := ⟨S128x1x1, .i1⟩) main_call1_v10) (TRef.of (T := ⟨S128x1x1, .i1⟩) main_call1_v11) andi,
    TRef.nullary (TRef.of (T := ⟨S_, .i1⟩) main_call1_c_3) (constantI S_ 1 1#1),
    TRef.binary (TRef.of (T := ⟨S128x1x1, .i1⟩) main_call1_v11) (TRef.of (T := ⟨S_, .i1⟩) main_call1_c_3) (TRef.of (T := ⟨S128x1, .i1⟩) main_call1_v12) (fun x v => Host.reduce IntOp.andi x v reducesTo_S128x1x1_S128x1_d2 h_S_),
    TRef.binary (TRef.of (T := ⟨S128x100000, .f32⟩) main_v206) (TRef.of (T := ⟨S128x1x1, .i32⟩) main_call1_v5) (TRef.of (T := ⟨S128x1, .f32⟩) main_call1_v13) (fun x i => Host.gather gather_S128x100000_S128x1x1_S128x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S128x1, .f32⟩) main_call1_v14) (broadcastInDim S128x1 ![] bcast_S_S128x1),
    TRef.ternary (TRef.of (T := ⟨S128x1, .i1⟩) main_call1_v12) (TRef.of (T := ⟨S128x1, .f32⟩) main_call1_v13) (TRef.of (T := ⟨S128x1, .f32⟩) main_call1_v14) (TRef.of (T := ⟨S128x1, .f32⟩) main_v208) select,
    unary main_v205 main_v209 (broadcastInDim S128x1 ![0] bcast_S128_S128x1_0 : (⟨S128, .i32⟩ : BufTy).Contents (Elt F) → (⟨S128x1, .i32⟩ : BufTy).Contents (Elt F)) ]

/-- @main's 301 operations, in order (a called function's operations stand in its call's place, spelt `TRef.…`). -/
abbrev ops : List (HloOp τ sig (Elt F)) :=
  ops_part0 ++ (ops_part1 ++ (ops_part2 ++ (ops_part3 ++ (ops_part4))))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., unary_bufs_sub .., binary_bufs_sub .., nullary_bufs_sub .., binary_bufs_sub .., nullary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_sub : (ops_part3 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_sub : (ops_part4 : List (HloOp τ sig (Elt F))).Forall fun op => op.bufs ⊆ tcRefs τ sig :=
  ⟨unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., unary_bufs_sub .., binary_bufs_sub .., nullary_bufs_sub .., nullary_bufs_sub .., nullary_bufs_sub .., quaternary_bufs_sub .., quaternary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub ..⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h]
theorem ops_fresh : ∀ op ∈ (ops : List (HloOp τ sig (Elt F))), op.fresh = ∅ := fun op h => by
    simp only [ops, List.mem_append] at h
    rcases h with h | h | h | h | h
    exacts [List.forall_iff_forall_mem.mp ops_part0_fresh op h, List.forall_iff_forall_mem.mp ops_part1_fresh op h, List.forall_iff_forall_mem.mp ops_part2_fresh op h, List.forall_iff_forall_mem.mp ops_part3_fresh op h, List.forall_iff_forall_mem.mp ops_part4_fresh op h]

set_option maxRecDepth 8192 in
/-- `main_v6`'s composed term of the arguments (named: it is used 2 times). -/
def res_main_v6 (V0 : Valuation τ sig (Elt F)) : (Proc.devRef .tc main_v6 : DevRef τ sig).ty.Contents (Elt F) :=
  Host.exp (subf (V0 (Proc.devRef .tc main_arg0)) (broadcastInDim S128x100000 ![0, 1] bcast_S128x1_S128x100000_0_1 (broadcastInDim S128x1 ![0] bcast_S128_S128x1_0 (maximumf (broadcastInDim S128 ![] bcast_S_S128 (constant S_ .f32 0xFF800000#32)) (Host.reduce FloatOps.maximumf (V0 (Proc.devRef .tc main_arg0)) (constant S_ .f32 0xFF800000#32) reducesTo_S128x100000_S128_d1 h_S_)))))

set_option maxRecDepth 8192 in
/-- `main_v20`'s composed term of the arguments (named: it is used 3 times). -/
def res_main_v20 (V0 : Valuation τ sig (Elt F)) : (Proc.devRef .tc main_v20 : DevRef τ sig).ty.Contents (Elt F) :=
  addi (addi (muli (iotaInDim S128x100000 32 0) (broadcastInDim S128x100000 ![] bcast_S_S128x100000 (constantI S_ 32 100000#32))) (iotaInDim S128x100000 32 1)) (broadcastInDim S128x100000 ![] bcast_S_S128x100000 (constantI S_ 32 42#32))

set_option maxRecDepth 8192 in
/-- `main_v21`'s composed term of the arguments (named: it is used 2 times). -/
def res_main_v21 (V0 : Valuation τ sig (Elt F)) : (Proc.devRef .tc main_v21 : DevRef τ sig).ty.Contents (Elt F) :=
  addi (addi (broadcastInDim S128x100000 ![] bcast_S_S128x100000 (constantI S_ 32 0#32)) (broadcastInDim S128x100000 ![] bcast_S_S128x100000 (constantI S_ 32 0#32))) (res_main_v20 V0)

set_option maxRecDepth 8192 in
/-- `main_v27`'s composed term of the arguments (named: it is used 3 times). -/
def res_main_v27 (V0 : Valuation τ sig (Elt F)) : (Proc.devRef .tc main_v27 : DevRef τ sig).ty.Contents (Elt F) :=
  xori (res_main_v21 V0) (ori (Host.shli (res_main_v20 V0) (broadcastInDim S128x100000 ![] bcast_S_S128x100000 (constantI S_ 32 13#32))) (Host.shrui (res_main_v20 V0) (broadcastInDim S128x100000 ![] bcast_S_S128x100000 (constantI S_ 32 19#32))))

set_option maxRecDepth 8192 in
/-- `main_v28`'s composed term of the arguments (named: it is used 2 times). -/
def res_main_v28 (V0 : Valuation τ sig (Elt F)) : (Proc.devRef .tc main_v28 : DevRef τ sig).ty.Contents (Elt F) :=
  addi (res_main_v21 V0) (res_main_v27 V0)

set_option maxRecDepth 8192 in
/-- `main_v34`'s composed term of the arguments (named: it is used 3 times). -/
def res_main_v34 (V0 : Valuation τ sig (Elt F)) : (Proc.devRef .tc main_v34 : DevRef τ sig).ty.Contents (Elt F) :=
  xori (res_main_v28 V0) (ori (Host.shli (res_main_v27 V0) (broadcastInDim S128x100000 ![] bcast_S_S128x100000 (constantI S_ 32 15#32))) (Host.shrui (res_main_v27 V0) (broadcastInDim S128x100000 ![] bcast_S_S128x100000 (constantI S_ 32 17#32))))

set_option maxRecDepth 8192 in
/-- `main_v35`'s composed term of the arguments (named: it is used 2 times). -/
def res_main_v35 (V0 : Valuation τ sig (Elt F)) : (Proc.devRef .tc main_v35 : DevRef τ sig).ty.Contents (Elt F) :=
  addi (res_main_v28 V0) (res_main_v34 V0)

set_option maxRecDepth 8192 in
/-- `main_v41`'s composed term of the arguments (named: it is used 3 times). -/
def res_main_v41 (V0 : Valuation τ sig (Elt F)) : (Proc.devRef .tc main_v41 : DevRef τ sig).ty.Contents (Elt F) :=
  xori (res_main_v35 V0) (ori (Host.shli (res_main_v34 V0) (broadcastInDim S128x100000 ![] bcast_S_S128x100000 (constantI S_ 32 26#32))) (Host.shrui (res_main_v34 V0) (broadcastInDim S128x100000 ![] bcast_S_S128x100000 (constantI S_ 32 6#32))))

set_option maxRecDepth 8192 in
/-- `main_v42`'s composed term of the arguments (named: it is used 2 times). -/
def res_main_v42 (V0 : Valuation τ sig (Elt F)) : (Proc.devRef .tc main_v42 : DevRef τ sig).ty.Contents (Elt F) :=
  addi (res_main_v35 V0) (res_main_v41 V0)

set_option maxRecDepth 8192 in
/-- `main_v54`'s composed term of the arguments (named: it is used 3 times). -/
def res_main_v54 (V0 : Valuation τ sig (Elt F)) : (Proc.devRef .tc main_v54 : DevRef τ sig).ty.Contents (Elt F) :=
  addi (addi (xori (res_main_v42 V0) (ori (Host.shli (res_main_v41 V0) (broadcastInDim S128x100000 ![] bcast_S_S128x100000 (constantI S_ 32 6#32))) (Host.shrui (res_main_v41 V0) (broadcastInDim S128x100000 ![] bcast_S_S128x100000 (constantI S_ 32 26#32))))) (broadcastInDim S128x100000 ![] bcast_S_S128x100000 (constantI S_ 32 466689008#32))) (broadcastInDim S128x100000 ![] bcast_S_S128x100000 (constantI S_ 32 1#32))

set_option maxRecDepth 8192 in
/-- `main_v55`'s composed term of the arguments (named: it is used 2 times). -/
def res_main_v55 (V0 : Valuation τ sig (Elt F)) : (Proc.devRef .tc main_v55 : DevRef τ sig).ty.Contents (Elt F) :=
  addi (addi (res_main_v42 V0) (broadcastInDim S128x100000 ![] bcast_S_S128x100000 (constantI S_ 32 42#32))) (res_main_v54 V0)

set_option maxRecDepth 8192 in
/-- `main_v61`'s composed term of the arguments (named: it is used 3 times). -/
def res_main_v61 (V0 : Valuation τ sig (Elt F)) : (Proc.devRef .tc main_v61 : DevRef τ sig).ty.Contents (Elt F) :=
  xori (res_main_v55 V0) (ori (Host.shli (res_main_v54 V0) (broadcastInDim S128x100000 ![] bcast_S_S128x100000 (constantI S_ 32 17#32))) (Host.shrui (res_main_v54 V0) (broadcastInDim S128x100000 ![] bcast_S_S128x100000 (constantI S_ 32 15#32))))

set_option maxRecDepth 8192 in
/-- `main_v62`'s composed term of the arguments (named: it is used 2 times). -/
def res_main_v62 (V0 : Valuation τ sig (Elt F)) : (Proc.devRef .tc main_v62 : DevRef τ sig).ty.Contents (Elt F) :=
  addi (res_main_v55 V0) (res_main_v61 V0)

set_option maxRecDepth 8192 in
/-- `main_v68`'s composed term of the arguments (named: it is used 3 times). -/
def res_main_v68 (V0 : Valuation τ sig (Elt F)) : (Proc.devRef .tc main_v68 : DevRef τ sig).ty.Contents (Elt F) :=
  xori (res_main_v62 V0) (ori (Host.shli (res_main_v61 V0) (broadcastInDim S128x100000 ![] bcast_S_S128x100000 (constantI S_ 32 29#32))) (Host.shrui (res_main_v61 V0) (broadcastInDim S128x100000 ![] bcast_S_S128x100000 (constantI S_ 32 3#32))))

set_option maxRecDepth 8192 in
/-- `main_v69`'s composed term of the arguments (named: it is used 2 times). -/
def res_main_v69 (V0 : Valuation τ sig (Elt F)) : (Proc.devRef .tc main_v69 : DevRef τ sig).ty.Contents (Elt F) :=
  addi (res_main_v62 V0) (res_main_v68 V0)

set_option maxRecDepth 8192 in
/-- `main_v75`'s composed term of the arguments (named: it is used 3 times). -/
def res_main_v75 (V0 : Valuation τ sig (Elt F)) : (Proc.devRef .tc main_v75 : DevRef τ sig).ty.Contents (Elt F) :=
  xori (res_main_v69 V0) (ori (Host.shli (res_main_v68 V0) (broadcastInDim S128x100000 ![] bcast_S_S128x100000 (constantI S_ 32 16#32))) (Host.shrui (res_main_v68 V0) (broadcastInDim S128x100000 ![] bcast_S_S128x100000 (constantI S_ 32 16#32))))

set_option maxRecDepth 8192 in
/-- `main_v76`'s composed term of the arguments (named: it is used 2 times). -/
def res_main_v76 (V0 : Valuation τ sig (Elt F)) : (Proc.devRef .tc main_v76 : DevRef τ sig).ty.Contents (Elt F) :=
  addi (res_main_v69 V0) (res_main_v75 V0)

set_option maxRecDepth 8192 in
/-- `main_v88`'s composed term of the arguments (named: it is used 3 times). -/
def res_main_v88 (V0 : Valuation τ sig (Elt F)) : (Proc.devRef .tc main_v88 : DevRef τ sig).ty.Contents (Elt F) :=
  addi (addi (xori (res_main_v76 V0) (ori (Host.shli (res_main_v75 V0) (broadcastInDim S128x100000 ![] bcast_S_S128x100000 (constantI S_ 32 24#32))) (Host.shrui (res_main_v75 V0) (broadcastInDim S128x100000 ![] bcast_S_S128x100000 (constantI S_ 32 8#32))))) (broadcastInDim S128x100000 ![] bcast_S_S128x100000 (constantI S_ 32 0#32))) (broadcastInDim S128x100000 ![] bcast_S_S128x100000 (constantI S_ 32 2#32))

set_option maxRecDepth 8192 in
/-- `main_v89`'s composed term of the arguments (named: it is used 2 times). -/
def res_main_v89 (V0 : Valuation τ sig (Elt F)) : (Proc.devRef .tc main_v89 : DevRef τ sig).ty.Contents (Elt F) :=
  addi (addi (res_main_v76 V0) (broadcastInDim S128x100000 ![] bcast_S_S128x100000 (constantI S_ 32 466689008#32))) (res_main_v88 V0)

set_option maxRecDepth 8192 in
/-- `main_v95`'s composed term of the arguments (named: it is used 3 times). -/
def res_main_v95 (V0 : Valuation τ sig (Elt F)) : (Proc.devRef .tc main_v95 : DevRef τ sig).ty.Contents (Elt F) :=
  xori (res_main_v89 V0) (ori (Host.shli (res_main_v88 V0) (broadcastInDim S128x100000 ![] bcast_S_S128x100000 (constantI S_ 32 13#32))) (Host.shrui (res_main_v88 V0) (broadcastInDim S128x100000 ![] bcast_S_S128x100000 (constantI S_ 32 19#32))))

set_option maxRecDepth 8192 in
/-- `main_v96`'s composed term of the arguments (named: it is used 2 times). -/
def res_main_v96 (V0 : Valuation τ sig (Elt F)) : (Proc.devRef .tc main_v96 : DevRef τ sig).ty.Contents (Elt F) :=
  addi (res_main_v89 V0) (res_main_v95 V0)

set_option maxRecDepth 8192 in
/-- `main_v102`'s composed term of the arguments (named: it is used 3 times). -/
def res_main_v102 (V0 : Valuation τ sig (Elt F)) : (Proc.devRef .tc main_v102 : DevRef τ sig).ty.Contents (Elt F) :=
  xori (res_main_v96 V0) (ori (Host.shli (res_main_v95 V0) (broadcastInDim S128x100000 ![] bcast_S_S128x100000 (constantI S_ 32 15#32))) (Host.shrui (res_main_v95 V0) (broadcastInDim S128x100000 ![] bcast_S_S128x100000 (constantI S_ 32 17#32))))

set_option maxRecDepth 8192 in
/-- `main_v103`'s composed term of the arguments (named: it is used 2 times). -/
def res_main_v103 (V0 : Valuation τ sig (Elt F)) : (Proc.devRef .tc main_v103 : DevRef τ sig).ty.Contents (Elt F) :=
  addi (res_main_v96 V0) (res_main_v102 V0)

set_option maxRecDepth 8192 in
/-- `main_v109`'s composed term of the arguments (named: it is used 3 times). -/
def res_main_v109 (V0 : Valuation τ sig (Elt F)) : (Proc.devRef .tc main_v109 : DevRef τ sig).ty.Contents (Elt F) :=
  xori (res_main_v103 V0) (ori (Host.shli (res_main_v102 V0) (broadcastInDim S128x100000 ![] bcast_S_S128x100000 (constantI S_ 32 26#32))) (Host.shrui (res_main_v102 V0) (broadcastInDim S128x100000 ![] bcast_S_S128x100000 (constantI S_ 32 6#32))))

set_option maxRecDepth 8192 in
/-- `main_v110`'s composed term of the arguments (named: it is used 2 times). -/
def res_main_v110 (V0 : Valuation τ sig (Elt F)) : (Proc.devRef .tc main_v110 : DevRef τ sig).ty.Contents (Elt F) :=
  addi (res_main_v103 V0) (res_main_v109 V0)

set_option maxRecDepth 8192 in
/-- `main_v122`'s composed term of the arguments (named: it is used 3 times). -/
def res_main_v122 (V0 : Valuation τ sig (Elt F)) : (Proc.devRef .tc main_v122 : DevRef τ sig).ty.Contents (Elt F) :=
  addi (addi (xori (res_main_v110 V0) (ori (Host.shli (res_main_v109 V0) (broadcastInDim S128x100000 ![] bcast_S_S128x100000 (constantI S_ 32 6#32))) (Host.shrui (res_main_v109 V0) (broadcastInDim S128x100000 ![] bcast_S_S128x100000 (constantI S_ 32 26#32))))) (broadcastInDim S128x100000 ![] bcast_S_S128x100000 (constantI S_ 32 42#32))) (broadcastInDim S128x100000 ![] bcast_S_S128x100000 (constantI S_ 32 3#32))

set_option maxRecDepth 8192 in
/-- `main_v123`'s composed term of the arguments (named: it is used 2 times). -/
def res_main_v123 (V0 : Valuation τ sig (Elt F)) : (Proc.devRef .tc main_v123 : DevRef τ sig).ty.Contents (Elt F) :=
  addi (addi (res_main_v110 V0) (broadcastInDim S128x100000 ![] bcast_S_S128x100000 (constantI S_ 32 0#32))) (res_main_v122 V0)

set_option maxRecDepth 8192 in
/-- `main_v129`'s composed term of the arguments (named: it is used 3 times). -/
def res_main_v129 (V0 : Valuation τ sig (Elt F)) : (Proc.devRef .tc main_v129 : DevRef τ sig).ty.Contents (Elt F) :=
  xori (res_main_v123 V0) (ori (Host.shli (res_main_v122 V0) (broadcastInDim S128x100000 ![] bcast_S_S128x100000 (constantI S_ 32 17#32))) (Host.shrui (res_main_v122 V0) (broadcastInDim S128x100000 ![] bcast_S_S128x100000 (constantI S_ 32 15#32))))

set_option maxRecDepth 8192 in
/-- `main_v130`'s composed term of the arguments (named: it is used 2 times). -/
def res_main_v130 (V0 : Valuation τ sig (Elt F)) : (Proc.devRef .tc main_v130 : DevRef τ sig).ty.Contents (Elt F) :=
  addi (res_main_v123 V0) (res_main_v129 V0)

set_option maxRecDepth 8192 in
/-- `main_v136`'s composed term of the arguments (named: it is used 3 times). -/
def res_main_v136 (V0 : Valuation τ sig (Elt F)) : (Proc.devRef .tc main_v136 : DevRef τ sig).ty.Contents (Elt F) :=
  xori (res_main_v130 V0) (ori (Host.shli (res_main_v129 V0) (broadcastInDim S128x100000 ![] bcast_S_S128x100000 (constantI S_ 32 29#32))) (Host.shrui (res_main_v129 V0) (broadcastInDim S128x100000 ![] bcast_S_S128x100000 (constantI S_ 32 3#32))))

set_option maxRecDepth 8192 in
/-- `main_v137`'s composed term of the arguments (named: it is used 2 times). -/
def res_main_v137 (V0 : Valuation τ sig (Elt F)) : (Proc.devRef .tc main_v137 : DevRef τ sig).ty.Contents (Elt F) :=
  addi (res_main_v130 V0) (res_main_v136 V0)

set_option maxRecDepth 8192 in
/-- `main_v143`'s composed term of the arguments (named: it is used 3 times). -/
def res_main_v143 (V0 : Valuation τ sig (Elt F)) : (Proc.devRef .tc main_v143 : DevRef τ sig).ty.Contents (Elt F) :=
  xori (res_main_v137 V0) (ori (Host.shli (res_main_v136 V0) (broadcastInDim S128x100000 ![] bcast_S_S128x100000 (constantI S_ 32 16#32))) (Host.shrui (res_main_v136 V0) (broadcastInDim S128x100000 ![] bcast_S_S128x100000 (constantI S_ 32 16#32))))

set_option maxRecDepth 8192 in
/-- `main_v144`'s composed term of the arguments (named: it is used 2 times). -/
def res_main_v144 (V0 : Valuation τ sig (Elt F)) : (Proc.devRef .tc main_v144 : DevRef τ sig).ty.Contents (Elt F) :=
  addi (res_main_v137 V0) (res_main_v143 V0)

set_option maxRecDepth 8192 in
/-- `main_v156`'s composed term of the arguments (named: it is used 3 times). -/
def res_main_v156 (V0 : Valuation τ sig (Elt F)) : (Proc.devRef .tc main_v156 : DevRef τ sig).ty.Contents (Elt F) :=
  addi (addi (xori (res_main_v144 V0) (ori (Host.shli (res_main_v143 V0) (broadcastInDim S128x100000 ![] bcast_S_S128x100000 (constantI S_ 32 24#32))) (Host.shrui (res_main_v143 V0) (broadcastInDim S128x100000 ![] bcast_S_S128x100000 (constantI S_ 32 8#32))))) (broadcastInDim S128x100000 ![] bcast_S_S128x100000 (constantI S_ 32 466689008#32))) (broadcastInDim S128x100000 ![] bcast_S_S128x100000 (constantI S_ 32 4#32))

set_option maxRecDepth 8192 in
/-- `main_v157`'s composed term of the arguments (named: it is used 2 times). -/
def res_main_v157 (V0 : Valuation τ sig (Elt F)) : (Proc.devRef .tc main_v157 : DevRef τ sig).ty.Contents (Elt F) :=
  addi (addi (res_main_v144 V0) (broadcastInDim S128x100000 ![] bcast_S_S128x100000 (constantI S_ 32 42#32))) (res_main_v156 V0)

set_option maxRecDepth 8192 in
/-- `main_v163`'s composed term of the arguments (named: it is used 3 times). -/
def res_main_v163 (V0 : Valuation τ sig (Elt F)) : (Proc.devRef .tc main_v163 : DevRef τ sig).ty.Contents (Elt F) :=
  xori (res_main_v157 V0) (ori (Host.shli (res_main_v156 V0) (broadcastInDim S128x100000 ![] bcast_S_S128x100000 (constantI S_ 32 13#32))) (Host.shrui (res_main_v156 V0) (broadcastInDim S128x100000 ![] bcast_S_S128x100000 (constantI S_ 32 19#32))))

set_option maxRecDepth 8192 in
/-- `main_v164`'s composed term of the arguments (named: it is used 2 times). -/
def res_main_v164 (V0 : Valuation τ sig (Elt F)) : (Proc.devRef .tc main_v164 : DevRef τ sig).ty.Contents (Elt F) :=
  addi (res_main_v157 V0) (res_main_v163 V0)

set_option maxRecDepth 8192 in
/-- `main_v170`'s composed term of the arguments (named: it is used 3 times). -/
def res_main_v170 (V0 : Valuation τ sig (Elt F)) : (Proc.devRef .tc main_v170 : DevRef τ sig).ty.Contents (Elt F) :=
  xori (res_main_v164 V0) (ori (Host.shli (res_main_v163 V0) (broadcastInDim S128x100000 ![] bcast_S_S128x100000 (constantI S_ 32 15#32))) (Host.shrui (res_main_v163 V0) (broadcastInDim S128x100000 ![] bcast_S_S128x100000 (constantI S_ 32 17#32))))

set_option maxRecDepth 8192 in
/-- `main_v171`'s composed term of the arguments (named: it is used 2 times). -/
def res_main_v171 (V0 : Valuation τ sig (Elt F)) : (Proc.devRef .tc main_v171 : DevRef τ sig).ty.Contents (Elt F) :=
  addi (res_main_v164 V0) (res_main_v170 V0)

set_option maxRecDepth 8192 in
/-- `main_v177`'s composed term of the arguments (named: it is used 3 times). -/
def res_main_v177 (V0 : Valuation τ sig (Elt F)) : (Proc.devRef .tc main_v177 : DevRef τ sig).ty.Contents (Elt F) :=
  xori (res_main_v171 V0) (ori (Host.shli (res_main_v170 V0) (broadcastInDim S128x100000 ![] bcast_S_S128x100000 (constantI S_ 32 26#32))) (Host.shrui (res_main_v170 V0) (broadcastInDim S128x100000 ![] bcast_S_S128x100000 (constantI S_ 32 6#32))))

set_option maxRecDepth 8192 in
/-- `main_v178`'s composed term of the arguments (named: it is used 2 times). -/
def res_main_v178 (V0 : Valuation τ sig (Elt F)) : (Proc.devRef .tc main_v178 : DevRef τ sig).ty.Contents (Elt F) :=
  addi (res_main_v171 V0) (res_main_v177 V0)

set_option maxRecDepth 8192 in
/-- `main_v204`'s composed term of the arguments: the perturbed features. -/
def res_main_v204 (V0 : Valuation τ sig (Elt F)) : BigF F :=
  subf (V0 (Proc.devRef .tc main_arg0)) (Host.log (Host.negf (Host.log (maximumf (broadcastInDim S128x100000 ![] bcast_S_S128x100000 (constant S_ .f32 0x00800000#32)) (subf (bitcastToFloat (F := F) .f32 (ori (Host.shrui (xori (addi (res_main_v178 V0) (broadcastInDim S128x100000 ![] bcast_S_S128x100000 (constantI S_ 32 466689008#32))) (addi (addi (xori (res_main_v178 V0) (ori (Host.shli (res_main_v177 V0) (broadcastInDim S128x100000 ![] bcast_S_S128x100000 (constantI S_ 32 6#32))) (Host.shrui (res_main_v177 V0) (broadcastInDim S128x100000 ![] bcast_S_S128x100000 (constantI S_ 32 26#32))))) (broadcastInDim S128x100000 ![] bcast_S_S128x100000 (constantI S_ 32 0#32))) (broadcastInDim S128x100000 ![] bcast_S_S128x100000 (constantI S_ 32 5#32)))) (broadcastInDim S128x100000 ![] bcast_S_S128x100000 (constantI S_ 32 9#32))) (broadcastInDim S128x100000 ![] bcast_S_S128x100000 (constantI S_ 32 1065353216#32)))) (broadcastInDim S128x100000 ![] bcast_S_S128x100000 (constant S_ .f32 0x3F800000#32)))))))

set_option maxRecDepth 8192 in
/-- `main_v205`'s composed term of the arguments (named: it is used 2 times). -/
def res_main_v205 (V0 : Valuation τ sig (Elt F)) : (Proc.devRef .tc main_v205 : DevRef τ sig).ty.Contents (Elt F) :=
  fun j => (Host.argReduce reducer_argmax_f32_i32 (res_main_v204 V0) (iotaInDim S128x100000 32 1) (constant S_ .f32 0xFF800000#32) (constantI S_ 32 0#32) reducesTo_S128x100000_S128_d1 h_S_ j).2

set_option maxRecDepth 8192 in
/-- `main_v207`'s composed term of the arguments (named: it is used 3 times). -/
def res_main_v207 (V0 : Valuation τ sig (Elt F)) : (Proc.devRef .tc main_v207 : DevRef τ sig).ty.Contents (Elt F) :=
  broadcastInDim S128x1 ![0] bcast_S128_S128x1_0 (res_main_v205 V0)

set_option maxRecDepth 8192 in
/-- `main_call1_v5`'s composed term of the arguments (named: it is used 3 times). -/
def res_main_call1_v5 (V0 : Valuation τ sig (Elt F)) : (Proc.devRef .tc main_call1_v5 : DevRef τ sig).ty.Contents (Elt F) :=
  shapeCast _ (select (cmpi .slt (res_main_v207 V0) (broadcastInDim S128x1 ![] bcast_S_S128x1 (constantI S_ 32 0#32))) (addi (res_main_v207 V0) (broadcastInDim S128x1 ![] bcast_S_S128x1 (constantI S_ 32 100000#32))) (res_main_v207 V0)) shapeCasts_S128x1_S128x1x1

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_cst, main_v0, main_cst_0, main_v1, main_v2, main_v3, main_v4, main_v5, main_v6, main_cst_1, main_v7, main_v8, main_v9, main_v10, main_v11, main_c, main_v12, main_v13, main_v14, main_v15, main_c_2, main_v16, main_c_3, main_v17, main_v18, main_c_4, main_v19, main_v20, main_v21, main_c_5, main_v22, main_v23, main_c_6, main_v24, main_v25, main_v26, main_v27, main_v28, main_c_7, main_v29, main_v30, main_c_8, main_v31, main_v32, main_v33, main_v34, main_v35, main_c_9, main_v36, main_v37, main_c_10, main_v38, main_v39, main_v40, main_v41, main_v42, main_c_11, main_v43, main_v44, main_c_12]
set_option maxRecDepth 8192 in
theorem ops_part0_writes : (ops_part0 : List (HloOp τ sig (Elt F))).Forall fun op => op.writes ⊆ (ops_part0_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
set_option maxRecDepth 8192 in
set_option maxHeartbeats 2000000 in
theorem val1_main_v10 (V0 : Valuation τ sig (Elt F)) : val1 V0 (no_index (Proc.devRef .tc main_v10)) = Host.divf (res_main_v6 V0) (broadcastInDim S128x100000 ![0, 1] bcast_S128x1_S128x100000_0_1 (broadcastInDim S128x1 ![0] bcast_S128_S128x1_0 (Host.reduceAdd (res_main_v6 V0) (constant S_ .f32 0x00000000#32) reducesTo_S128x100000_S128_d1 h_S_))) := by
  unfold val1
  simp only [ops_part0]
  after_results_simp
  simp only [val0_main_arg0] <;> rfl
set_option maxRecDepth 8192 in
set_option maxHeartbeats 2000000 in
theorem val1_main_v41 (V0 : Valuation τ sig (Elt F)) : val1 V0 (no_index (Proc.devRef .tc main_v41)) = res_main_v41 V0 := by
  unfold val1
  simp only [ops_part0]
  after_results_simp
  all_goals rfl
set_option maxRecDepth 8192 in
set_option maxHeartbeats 2000000 in
theorem val1_main_v42 (V0 : Valuation τ sig (Elt F)) : val1 V0 (no_index (Proc.devRef .tc main_v42)) = res_main_v42 V0 := by
  unfold val1
  simp only [ops_part0]
  after_results_simp
  all_goals rfl
set_option maxRecDepth 8192 in
set_option maxHeartbeats 2000000 in
theorem val1_main_v44 (V0 : Valuation τ sig (Elt F)) : val1 V0 (no_index (Proc.devRef .tc main_v44)) = Host.shli (res_main_v41 V0) (broadcastInDim S128x100000 ![] bcast_S_S128x100000 (constantI S_ 32 6#32)) := by
  unfold val1
  simp only [ops_part0]
  after_results_simp
  all_goals rfl
set_option maxRecDepth 8192 in
set_option maxHeartbeats 2000000 in
theorem val1_main_c_12 (V0 : Valuation τ sig (Elt F)) : val1 V0 (no_index (Proc.devRef .tc main_c_12)) = constantI S_ 32 26#32 := by
  unfold val1
  simp only [ops_part0]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v45, main_v46, main_v47, main_v48, main_c_13, main_v49, main_v50, main_c_14, main_v51, main_v52, main_c_15, main_v53, main_v54, main_v55, main_c_16, main_v56, main_v57, main_c_17, main_v58, main_v59, main_v60, main_v61, main_v62, main_c_18, main_v63, main_v64, main_c_19, main_v65, main_v66, main_v67, main_v68, main_v69, main_c_20, main_v70, main_v71, main_c_21, main_v72, main_v73, main_v74, main_v75, main_v76, main_c_22, main_v77, main_v78, main_c_23, main_v79, main_v80, main_v81, main_v82, main_c_24, main_v83, main_v84, main_c_25, main_v85, main_v86, main_c_26, main_v87, main_v88, main_v89, main_c_27]
set_option maxRecDepth 8192 in
theorem ops_part1_writes : (ops_part1 : List (HloOp τ sig (Elt F))).Forall fun op => op.writes ⊆ (ops_part1_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_v10 (V0 : Valuation τ sig (Elt F)) : val2 V0 (no_index (Proc.devRef .tc main_v10)) = Host.divf (res_main_v6 V0) (broadcastInDim S128x100000 ![0, 1] bcast_S128x1_S128x100000_0_1 (broadcastInDim S128x1 ![0] bcast_S128_S128x1_0 (Host.reduceAdd (res_main_v6 V0) (constant S_ .f32 0x00000000#32) reducesTo_S128x100000_S128_d1 h_S_))) :=
  (val2_keep V0 main_v10 (by decide)).trans (val1_main_v10 V0)
set_option maxRecDepth 8192 in
set_option maxHeartbeats 2000000 in
theorem val2_main_v88 (V0 : Valuation τ sig (Elt F)) : val2 V0 (no_index (Proc.devRef .tc main_v88)) = res_main_v88 V0 := by
  unfold val2
  simp only [ops_part1]
  after_results_simp
  simp only [val1_main_c_12, val1_main_v41, val1_main_v44, val1_main_v42] <;> rfl
set_option maxRecDepth 8192 in
set_option maxHeartbeats 2000000 in
theorem val2_main_v89 (V0 : Valuation τ sig (Elt F)) : val2 V0 (no_index (Proc.devRef .tc main_v89)) = res_main_v89 V0 := by
  unfold val2
  simp only [ops_part1]
  after_results_simp
  simp only [val1_main_c_12, val1_main_v41, val1_main_v44, val1_main_v42] <;> rfl
set_option maxRecDepth 8192 in
set_option maxHeartbeats 2000000 in
theorem val2_main_c_27 (V0 : Valuation τ sig (Elt F)) : val2 V0 (no_index (Proc.devRef .tc main_c_27)) = constantI S_ 32 13#32 := by
  unfold val2
  simp only [ops_part1]
  after_results_simp
  all_goals rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v90, main_v91, main_c_28, main_v92, main_v93, main_v94, main_v95, main_v96, main_c_29, main_v97, main_v98, main_c_30, main_v99, main_v100, main_v101, main_v102, main_v103, main_c_31, main_v104, main_v105, main_c_32, main_v106, main_v107, main_v108, main_v109, main_v110, main_c_33, main_v111, main_v112, main_c_34, main_v113, main_v114, main_v115, main_v116, main_c_35, main_v117, main_v118, main_c_36, main_v119, main_v120, main_c_37, main_v121, main_v122, main_v123, main_c_38, main_v124, main_v125, main_c_39, main_v126, main_v127, main_v128, main_v129, main_v130, main_c_40, main_v131, main_v132, main_c_41, main_v133, main_v134, main_v135]
set_option maxRecDepth 8192 in
theorem ops_part2_writes : (ops_part2 : List (HloOp τ sig (Elt F))).Forall fun op => op.writes ⊆ (ops_part2_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_v10 (V0 : Valuation τ sig (Elt F)) : val3 V0 (no_index (Proc.devRef .tc main_v10)) = Host.divf (res_main_v6 V0) (broadcastInDim S128x100000 ![0, 1] bcast_S128x1_S128x100000_0_1 (broadcastInDim S128x1 ![0] bcast_S128_S128x1_0 (Host.reduceAdd (res_main_v6 V0) (constant S_ .f32 0x00000000#32) reducesTo_S128x100000_S128_d1 h_S_))) :=
  (val3_keep V0 main_v10 (by decide)).trans (val2_main_v10 V0)
set_option maxRecDepth 8192 in
set_option maxHeartbeats 2000000 in
theorem val3_main_v130 (V0 : Valuation τ sig (Elt F)) : val3 V0 (no_index (Proc.devRef .tc main_v130)) = res_main_v130 V0 := by
  unfold val3
  simp only [ops_part2]
  after_results_simp
  simp only [val2_main_v88, val2_main_c_27, val2_main_v89] <;> rfl
set_option maxRecDepth 8192 in
set_option maxHeartbeats 2000000 in
theorem val3_main_v135 (V0 : Valuation τ sig (Elt F)) : val3 V0 (no_index (Proc.devRef .tc main_v135)) = ori (Host.shli (res_main_v129 V0) (broadcastInDim S128x100000 ![] bcast_S_S128x100000 (constantI S_ 32 29#32))) (Host.shrui (res_main_v129 V0) (broadcastInDim S128x100000 ![] bcast_S_S128x100000 (constantI S_ 32 3#32))) := by
  unfold val3
  simp only [ops_part2]
  after_results_simp
  simp only [val2_main_v88, val2_main_c_27, val2_main_v89] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v136, main_v137, main_c_42, main_v138, main_v139, main_c_43, main_v140, main_v141, main_v142, main_v143, main_v144, main_c_44, main_v145, main_v146, main_c_45, main_v147, main_v148, main_v149, main_v150, main_c_46, main_v151, main_v152, main_c_47, main_v153, main_v154, main_c_48, main_v155, main_v156, main_v157, main_c_49, main_v158, main_v159, main_c_50, main_v160, main_v161, main_v162, main_v163, main_v164, main_c_51, main_v165, main_v166, main_c_52, main_v167, main_v168, main_v169, main_v170, main_v171, main_c_53, main_v172, main_v173, main_c_54, main_v174, main_v175, main_v176, main_v177, main_v178, main_c_55, main_v179, main_v180, main_c_56]
set_option maxRecDepth 8192 in
theorem ops_part3_writes : (ops_part3 : List (HloOp τ sig (Elt F))).Forall fun op => op.writes ⊆ (ops_part3_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_v10 (V0 : Valuation τ sig (Elt F)) : val4 V0 (no_index (Proc.devRef .tc main_v10)) = Host.divf (res_main_v6 V0) (broadcastInDim S128x100000 ![0, 1] bcast_S128x1_S128x100000_0_1 (broadcastInDim S128x1 ![0] bcast_S128_S128x1_0 (Host.reduceAdd (res_main_v6 V0) (constant S_ .f32 0x00000000#32) reducesTo_S128x100000_S128_d1 h_S_))) :=
  (val4_keep V0 main_v10 (by decide)).trans (val3_main_v10 V0)
set_option maxRecDepth 8192 in
set_option maxHeartbeats 2000000 in
theorem val4_main_v177 (V0 : Valuation τ sig (Elt F)) : val4 V0 (no_index (Proc.devRef .tc main_v177)) = res_main_v177 V0 := by
  unfold val4
  simp only [ops_part3]
  after_results_simp
  simp only [val3_main_v135, val3_main_v130] <;> rfl
set_option maxRecDepth 8192 in
set_option maxHeartbeats 2000000 in
theorem val4_main_v178 (V0 : Valuation τ sig (Elt F)) : val4 V0 (no_index (Proc.devRef .tc main_v178)) = res_main_v178 V0 := by
  unfold val4
  simp only [ops_part3]
  after_results_simp
  simp only [val3_main_v135, val3_main_v130] <;> rfl
set_option maxRecDepth 8192 in
set_option maxHeartbeats 2000000 in
theorem val4_main_v180 (V0 : Valuation τ sig (Elt F)) : val4 V0 (no_index (Proc.devRef .tc main_v180)) = Host.shli (res_main_v177 V0) (broadcastInDim S128x100000 ![] bcast_S_S128x100000 (constantI S_ 32 6#32)) := by
  unfold val4
  simp only [ops_part3]
  after_results_simp
  simp only [val3_main_v135, val3_main_v130] <;> rfl
set_option maxRecDepth 8192 in
set_option maxHeartbeats 2000000 in
theorem val4_main_c_56 (V0 : Valuation τ sig (Elt F)) : val4 V0 (no_index (Proc.devRef .tc main_c_56)) = constantI S_ 32 26#32 := by
  unfold val4
  simp only [ops_part3]
  after_results_simp
  all_goals rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_v181, main_v182, main_v183, main_v184, main_c_57, main_v185, main_v186, main_c_58, main_v187, main_v188, main_c_59, main_v189, main_v190, main_v191, main_c_60, main_v192, main_v193, main_c_61, main_v194, main_v195, main_v196, main_cst_62, main_v197, main_v198, main_cst_63, main_v199, main_v200, main_v201, main_v202, main_v203, main_v204, main_call0_v0, main_call0_cst, main_call0_c, main_call0_v1_0, main_v205, main_v206, main_v207, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v208, main_v209]
set_option maxRecDepth 8192 in
theorem ops_part4_writes : (ops_part4 : List (HloOp τ sig (Elt F))).Forall fun op => op.writes ⊆ (ops_part4_W.map (Proc.devRef (τ := τ) .tc)).toFinset := by
  simp only [List.Forall]
  repeat' apply And.intro
  all_goals
    simp only [nullary_writes, unary_writes, binary_writes, ternary_writes, quaternary_writes, reshape_writes, Finset.singleton_subset_iff, List.mem_toFinset]
    exact List.mem_map_of_mem (by decide)
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
set_option maxRecDepth 8192 in
set_option maxHeartbeats 2000000 in
theorem val5_main_v208 (V0 : Valuation τ sig (Elt F)) : val5 V0 (no_index (Proc.devRef .tc main_v208)) = select (Host.reduce IntOp.andi (andi (cmpi .sge (res_main_call1_v5 V0) (broadcastInDim S128x1x1 ![] bcast_S_S128x1x1 (constantI S_ 32 0#32))) (cmpi .sle (res_main_call1_v5 V0) (broadcastInDim S128x1x1 ![0, 1, 2] bcast_S1x1x1_S128x1x1_0_1_2 (broadcastInDim S1x1x1 ![2] bcast_S1_S1x1x1_2 (constantI S1 32 99999#32))))) (constantI S_ 1 1#1) reducesTo_S128x1x1_S128x1_d2 h_S_) (Host.gather gather_S128x100000_S128x1x1_S128x1_n_1_0_0_1_2_11 (Host.log (Host.divf (res_main_v6 V0) (broadcastInDim S128x100000 ![0, 1] bcast_S128x1_S128x100000_0_1 (broadcastInDim S128x1 ![0] bcast_S128_S128x1_0 (Host.reduceAdd (res_main_v6 V0) (constant S_ .f32 0x00000000#32) reducesTo_S128x100000_S128_d1 h_S_))))) (res_main_call1_v5 V0)) (broadcastInDim S128x1 ![] bcast_S_S128x1 (constant S_ .f32 0x7FC00000#32)) := by
  unfold val5
  simp only [ops_part4, TRef.binary, TRef.nullary, TRef.quaternary, TRef.reshape, TRef.ternary, TRef.unary, TRef.toBuf, TRef.ofBuf, cast_eq]
  after_results_simp
  simp only [val4_main_c_56, val4_main_v177, val4_main_v180, val4_main_v178, val4_main_arg0, val4_main_v10] <;> rfl
set_option maxRecDepth 8192 in
set_option maxHeartbeats 2000000 in
theorem val5_main_v209 (V0 : Valuation τ sig (Elt F)) : val5 V0 (no_index (Proc.devRef .tc main_v209)) = broadcastInDim S128x1 ![0] bcast_S128_S128x1_0 (res_main_v205 V0) := by
  unfold val5
  simp only [ops_part4, TRef.binary, TRef.nullary, TRef.quaternary, TRef.reshape, TRef.ternary, TRef.unary, TRef.toBuf, TRef.ofBuf, cast_eq]
  after_results_simp
  simp only [val4_main_c_56, val4_main_v177, val4_main_v180, val4_main_v178, val4_main_arg0] <;> rfl

theorem after_ops (V0 : Valuation τ sig (Elt F)) : after ops V0 = val5 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v209) = broadcastInDim S128x1 ![0] bcast_S128_S128x1_0 (res_main_v205 (launchContents m c))
      ∧ r.2.mem ((c.tc : Thread nD τ).loc main_v208) = select (Host.reduce IntOp.andi (andi (cmpi .sge (res_main_call1_v5 (launchContents m c)) (broadcastInDim S128x1x1 ![] bcast_S_S128x1x1 (constantI S_ 32 0#32))) (cmpi .sle (res_main_call1_v5 (launchContents m c)) (broadcastInDim S128x1x1 ![0, 1, 2] bcast_S1x1x1_S128x1x1_0_1_2 (broadcastInDim S1x1x1 ![2] bcast_S1_S1x1x1_2 (constantI S1 32 99999#32))))) (constantI S_ 1 1#1) reducesTo_S128x1x1_S128x1_d2 h_S_) (Host.gather gather_S128x100000_S128x1x1_S128x1_n_1_0_0_1_2_11 (Host.log (Host.divf (res_main_v6 (launchContents m c)) (broadcastInDim S128x100000 ![0, 1] bcast_S128x1_S128x100000_0_1 (broadcastInDim S128x1 ![0] bcast_S128_S128x1_0 (Host.reduceAdd (res_main_v6 (launchContents m c)) (constant S_ .f32 0x00000000#32) reducesTo_S128x100000_S128_d1 h_S_))))) (res_main_call1_v5 (launchContents m c))) (broadcastInDim S128x1 ![] bcast_S_S128x1 (constant S_ .f32 0x7FC00000#32))
      ∧ r.2.mem ((c.tc : Thread nD τ).loc main_arg0) = m ((c.tc : Thread nD τ).loc main_arg0) :=
  (θ_run defs _ _).mono (fun _ h c => ⟨(h c main_v209).trans ((congrFun (after_ops (launchContents m c)) (Proc.devRef .tc main_v209)).trans (val5_main_v209 (launchContents m c))),
      (h c main_v208).trans ((congrFun (after_ops (launchContents m c)) (Proc.devRef .tc main_v208)).trans (val5_main_v208 (launchContents m c))),
      (h c main_arg0).trans ((congrFun (after_ops (launchContents m c)) (Proc.devRef .tc main_arg0)).trans (val5_main_arg0 (launchContents m c)))⟩)
    (run_seq scopedRefs_eq scopedSems_eq defs main (fun _ => ops) main_eq (fun _ => ops_sub) m ρ fun _ => ops_fresh)

end Cert.ReferenceIdeal.Run

end
-- ==== Proof.Bounded.lean ====
/-
  What the precondition says of the features over the extended reals: each is a real number of magnitude at most seven.
-/
module

public import proofs.«01_k».proof.Proof.Gen.Pre_bounded
public import Idealize.ShloMosaic.Lib.ReduceAll
public import Idealize.ShloMosaic.Lib.ValueIdx

@[expose] public section

noncomputable section

namespace Cert.Pre_bounded

open Idealize.ShloMosaic

theorem seven : Ideal.ofBits .f32 0x40E00000#32 = ((7 : ℝ) : EReal) := by
  have e : (0x40E00000#32).extractLsb' 23 8 = 129#8 := by decide
  have f : (0x40E00000#32).extractLsb' 0 23 = 0x600000#23 := by decide
  have g : (0x40E00000#32).extractLsb' 31 1 = 0#1 := by decide
  unfold Ideal.ofBits Ideal.ieee
  norm_num [e, f, g]

/-- An extended real that is at most seven, as is its negation, is a real number of magnitude at most seven. -/
theorem real_of_abs_le {y : EReal} (h : max y (-y) ≤ ((7 : ℝ) : EReal)) : ∃ x : ℝ, y = (x : EReal) ∧ |x| ≤ 7 := by
  induction y using EReal.rec with
  | bot => simp at h
  | top => simp at h
  | coe x =>
    refine ⟨x, rfl, abs_le.2 ?_⟩
    have h1 := EReal.coe_le_coe_iff.1 ((le_max_left _ _).trans h)
    have h2 : ((-x : ℝ) : EReal) ≤ ((7 : ℝ) : EReal) := by
      rw [EReal.coe_neg]
      exact (le_max_right _ _).trans h
    have h3 := EReal.coe_le_coe_iff.1 h2
    exact ⟨by linarith, h1⟩

/-- Under the precondition each feature is a real number of magnitude at most seven. -/
theorem feature_real {v : FVec Ideal S128x100000 .f32} (h : fn (F := Ideal) v = fun _ => 1#1) (i : S128x100000.Idx) :
    ∃ x : ℝ, v i = (x : EReal) ∧ |x| ≤ 7 := by
  haveI : Subsingleton S_.Idx := ⟨fun a b => funext fun k => k.elim0⟩
  have e := Host.reduce_andi_all _ _ _ _ (fun k => k.elim0) (congrFun h (fun k => k.elim0)) i
  refine real_of_abs_le ?_
  rw [← seven]
  have e' : Ideal.cmp .ole (max (v i) (-(v i))) (Ideal.ofBits .f32 0x40E00000#32) = 1#1 := e
  generalize Ideal.ofBits .f32 0x40E00000#32 = b at e' ⊢
  generalize max (v i) (-(v i)) = a at e' ⊢
  by_contra hn
  rw [show Ideal.cmp .ole a b = BitVec.ofBool (decide (a ≤ b)) from rfl, decide_eq_false hn] at e'
  exact absurd e' (by decide)

/-- The features as real numbers, row by row. -/
theorem features_real {v : FVec Ideal S128x100000 .f32} (h : fn (F := Ideal) v = fun _ => 1#1) :
    ∃ x : Fin 128 → ℕ → ℝ, (∀ R (n : Fin 100000), v (ValueIdx.ix2 R n) = ((x R n.val : ℝ) : EReal)) ∧ ∀ R, ∀ n < 100000, |x R n| ≤ 7 := by
  choose f hf hb using fun (R : Fin 128) (n : Fin 100000) => feature_real h (ValueIdx.ix2 R n)
  refine ⟨fun R n => if hn : n < 100000 then f R ⟨n, hn⟩ else 0, fun R n => ?_, fun R n hn => ?_⟩
  · show v (ValueIdx.ix2 R n) = (((if hn : n.val < 100000 then f R ⟨n.val, hn⟩ else 0 : ℝ)) : EReal)
    rw [dif_pos n.isLt]
    exact hf R n
  · show |if hn : n < 100000 then f R ⟨n, hn⟩ else 0| ≤ 7
    rw [dif_pos hn]
    exact hb R ⟨n, hn⟩

end Cert.Pre_bounded

end
-- ==== Proof.Threefry.lean ====
/-
  The random words: Threefry-2x32 with twenty rounds and the key (0, 42) on the counter (0, c), as a function of the
  word c, and the number in [0, 1) that its upper 23 bits stand for. Nothing here names a program.
-/
module

public import Idealize.ShloMosaic.Lib.Pointwise
public import Idealize.ShloMosaic.PureOps.Ideal

@[expose] public section

namespace Cert.Rng

open Idealize.ShloMosaic

/-- A word rotated left by `r` places. -/
def rot (r : ℕ) (x : BitVec 32) : BitVec 32 := x <<< r ||| x >>> (32 - r)

/-- One round: the first word takes the sum, the second is rotated and xored with that sum. -/
def rnd (r : ℕ) (s : BitVec 32 × BitVec 32) : BitVec 32 × BitVec 32 := (s.1 + s.2, (s.1 + s.2) ^^^ rot r s.2)

/-- One key injection: a word added to each half. -/
def inj (a b : BitVec 32) (s : BitVec 32 × BitVec 32) : BitVec 32 × BitVec 32 := (s.1 + a, s.2 + b)

/-- The steps after the first round, in order: each group of four rounds, then a key injection. -/
def step : ℕ → BitVec 32 × BitVec 32 → BitVec 32 × BitVec 32
  | 1 => rnd 15 | 2 => rnd 26 | 3 => rnd 6
  | 4 => inj 42#32 466689009#32
  | 5 => rnd 17 | 6 => rnd 29 | 7 => rnd 16 | 8 => rnd 24
  | 9 => inj 466689008#32 2#32
  | 10 => rnd 13 | 11 => rnd 15 | 12 => rnd 26 | 13 => rnd 6
  | 14 => inj 0#32 45#32
  | 15 => rnd 17 | 16 => rnd 29 | 17 => rnd 16 | 18 => rnd 24
  | 19 => inj 42#32 466689012#32
  | 20 => rnd 13 | 21 => rnd 15 | 22 => rnd 26 | 23 => rnd 6
  | 24 => inj 466689008#32 5#32
  | _ => id

/-- The state before the first round's addition: the counter with the key added. -/
def start (c : BitVec 32) : BitVec 32 := c + 42#32

/-- The pair of words after `n` steps on the counter `c`: after the first round at `n = 1`, after the last injection
    at `n = 25`. -/
def st : ℕ → BitVec 32 → BitVec 32 × BitVec 32
  | 0, c => (0#32, start c)
  | 1, c => (start c, start c ^^^ rot 13 (start c))
  | n + 2, c => step (n + 1) (st (n + 1) c)

/-- The random word of the counter `c`. -/
def bits (c : BitVec 32) : BitVec 32 := (st 25 c).1 ^^^ (st 25 c).2

/-- The draw of the counter `c`, as a number of 2⁻²³'s. -/
def draw (c : BitVec 32) : ℕ := (bits c >>> 9).toNat

theorem draw_lt (c : BitVec 32) : draw c < 2 ^ 23 := by
  unfold draw
  rw [BitVec.toNat_ushiftRight, Nat.shiftRight_eq_div_pow]
  have := (bits c).isLt
  omega

end Cert.Rng

end
-- ==== Proof.KDraw.lean ====
/-
  The random words the kernel draws, read lane by lane: every intermediate word of its in-kernel generator, in the loop's
  tiles and in the last tile, is the corresponding word of Threefry on that lane's counter.
-/
module

public import proofs.«01_k».proof.Proof.Gen.KernelIdeal.Skeleton
public import proofs.«01_k».proof.Proof.Threefry

@[expose] public section

noncomputable section

namespace Cert.KernelIdeal.Draws

open Cert.KernelIdeal Cert.KernelIdeal.Gen Cert.Rng Idealize.ShloMosaic

variable {F : FTy → Type} [FloatOps F]

/-- The counter of lane `j` in trip `k` of the loop, `v7` being its counter in tile 0. -/
def loopCtr (v7 : IVec S16x256 32) (k : Fin k0_t1_loop.trips) (j : S16x256.Idx) : BitVec 32 :=
  v7 j + Scf.iv 0#32 1#32 k * 256#32

theorem pay2_at (v7 : IVec S16x256 32) (k : Fin k0_t1_loop.trips) (j : S16x256.Idx) :
    k0_pay2 v7 0#32 1#32 k j = start (loopCtr v7 k j) := rfl

theorem pay3_at (v7 : IVec S16x256 32) (k : Fin k0_t1_loop.trips) (j : S16x256.Idx) :
    k0_pay3 v7 0#32 1#32 k j = (st 1 (loopCtr v7 k j)).2 := by
  simp only [k0_pay3, addi_apply, shli_apply, shrui_apply, ori_apply, xori_apply, broadcast, pay2_at]
  rfl

theorem pay4_at (v7 : IVec S16x256 32) (k : Fin k0_t1_loop.trips) (j : S16x256.Idx) :
    k0_pay4 v7 0#32 1#32 k j = (st 2 (loopCtr v7 k j)).1 := by
  simp only [k0_pay4, addi_apply, shli_apply, shrui_apply, ori_apply, xori_apply, broadcast, pay2_at, pay3_at]
  rfl

theorem pay5_at (v7 : IVec S16x256 32) (k : Fin k0_t1_loop.trips) (j : S16x256.Idx) :
    k0_pay5 v7 0#32 1#32 k j = (st 2 (loopCtr v7 k j)).2 := by
  simp only [k0_pay5, addi_apply, shli_apply, shrui_apply, ori_apply, xori_apply, broadcast, pay3_at, pay4_at]
  rfl

theorem pay6_at (v7 : IVec S16x256 32) (k : Fin k0_t1_loop.trips) (j : S16x256.Idx) :
    k0_pay6 v7 0#32 1#32 k j = (st 3 (loopCtr v7 k j)).1 := by
  simp only [k0_pay6, addi_apply, shli_apply, shrui_apply, ori_apply, xori_apply, broadcast, pay4_at, pay5_at]
  rfl

theorem pay7_at (v7 : IVec S16x256 32) (k : Fin k0_t1_loop.trips) (j : S16x256.Idx) :
    k0_pay7 v7 0#32 1#32 k j = (st 3 (loopCtr v7 k j)).2 := by
  simp only [k0_pay7, addi_apply, shli_apply, shrui_apply, ori_apply, xori_apply, broadcast, pay5_at, pay6_at]
  rfl

theorem pay8_at (v7 : IVec S16x256 32) (k : Fin k0_t1_loop.trips) (j : S16x256.Idx) :
    k0_pay8 v7 0#32 1#32 k j = (st 4 (loopCtr v7 k j)).1 := by
  simp only [k0_pay8, addi_apply, shli_apply, shrui_apply, ori_apply, xori_apply, broadcast, pay6_at, pay7_at]
  rfl

theorem pay9_at (v7 : IVec S16x256 32) (k : Fin k0_t1_loop.trips) (j : S16x256.Idx) :
    k0_pay9 v7 0#32 1#32 k j = (st 5 (loopCtr v7 k j)).2 := by
  simp only [k0_pay9, addi_apply, shli_apply, shrui_apply, ori_apply, xori_apply, broadcast, pay7_at, pay8_at]
  rfl

theorem pay10_at (v7 : IVec S16x256 32) (k : Fin k0_t1_loop.trips) (j : S16x256.Idx) :
    k0_pay10 v7 0#32 1#32 k j = (st 6 (loopCtr v7 k j)).1 := by
  simp only [k0_pay10, addi_apply, shli_apply, shrui_apply, ori_apply, xori_apply, broadcast, pay8_at, pay9_at]
  rfl

theorem pay11_at (v7 : IVec S16x256 32) (k : Fin k0_t1_loop.trips) (j : S16x256.Idx) :
    k0_pay11 v7 0#32 1#32 k j = rot 17 (st 5 (loopCtr v7 k j)).2 := by
  simp only [k0_pay11, addi_apply, shli_apply, shrui_apply, ori_apply, xori_apply, broadcast, pay9_at]
  rfl

theorem pay12_at (v262 v267 : IVec S16x256 32) (c : BitVec 32) (j : S16x256.Idx)
    (h0 : v262 j = (st 6 c).1) (h1 : v267 j = rot 17 (st 5 c).2) :
    k0_pay12 v262 v267 j = (st 6 c).2 := by
  simp only [k0_pay12, addi_apply, shli_apply, shrui_apply, ori_apply, xori_apply, broadcast, h0, h1]
  rfl

theorem pay13_at (v262 v267 : IVec S16x256 32) (c : BitVec 32) (j : S16x256.Idx)
    (h0 : v262 j = (st 6 c).1) (h1 : v267 j = rot 17 (st 5 c).2) :
    k0_pay13 v262 v267 j = (st 7 c).1 := by
  simp only [k0_pay13, addi_apply, shli_apply, shrui_apply, ori_apply, xori_apply, broadcast, h0, pay12_at _ _ c j h0 h1]
  rfl

theorem pay14_at (v262 v267 : IVec S16x256 32) (c : BitVec 32) (j : S16x256.Idx)
    (h0 : v262 j = (st 6 c).1) (h1 : v267 j = rot 17 (st 5 c).2) :
    k0_pay14 v262 v267 j = (st 7 c).2 := by
  simp only [k0_pay14, addi_apply, shli_apply, shrui_apply, ori_apply, xori_apply, broadcast, pay12_at _ _ c j h0 h1, pay13_at _ _ c j h0 h1]
  rfl

theorem pay15_at (v262 v267 : IVec S16x256 32) (c : BitVec 32) (j : S16x256.Idx)
    (h0 : v262 j = (st 6 c).1) (h1 : v267 j = rot 17 (st 5 c).2) :
    k0_pay15 v262 v267 j = (st 8 c).1 := by
  simp only [k0_pay15, addi_apply, shli_apply, shrui_apply, ori_apply, xori_apply, broadcast, pay13_at _ _ c j h0 h1, pay14_at _ _ c j h0 h1]
  rfl

theorem pay16_at (v262 v267 : IVec S16x256 32) (c : BitVec 32) (j : S16x256.Idx)
    (h0 : v262 j = (st 6 c).1) (h1 : v267 j = rot 17 (st 5 c).2) :
    k0_pay16 v262 v267 j = (st 8 c).2 := by
  simp only [k0_pay16, addi_apply, shli_apply, shrui_apply, ori_apply, xori_apply, broadcast, pay14_at _ _ c j h0 h1, pay15_at _ _ c j h0 h1]
  rfl

theorem pay17_at (v262 v267 : IVec S16x256 32) (c : BitVec 32) (j : S16x256.Idx)
    (h0 : v262 j = (st 6 c).1) (h1 : v267 j = rot 17 (st 5 c).2) :
    k0_pay17 v262 v267 j = (st 9 c).1 := by
  simp only [k0_pay17, addi_apply, shli_apply, shrui_apply, ori_apply, xori_apply, broadcast, pay15_at _ _ c j h0 h1, pay16_at _ _ c j h0 h1]
  rfl

theorem pay18_at (v262 v267 : IVec S16x256 32) (c : BitVec 32) (j : S16x256.Idx)
    (h0 : v262 j = (st 6 c).1) (h1 : v267 j = rot 17 (st 5 c).2) :
    k0_pay18 v262 v267 j = (st 10 c).2 := by
  simp only [k0_pay18, addi_apply, shli_apply, shrui_apply, ori_apply, xori_apply, broadcast, pay16_at _ _ c j h0 h1, pay17_at _ _ c j h0 h1]
  rfl

theorem pay19_at (v262 v267 : IVec S16x256 32) (c : BitVec 32) (j : S16x256.Idx)
    (h0 : v262 j = (st 6 c).1) (h1 : v267 j = rot 17 (st 5 c).2) :
    k0_pay19 v262 v267 j = (st 11 c).1 := by
  simp only [k0_pay19, addi_apply, shli_apply, shrui_apply, ori_apply, xori_apply, broadcast, pay17_at _ _ c j h0 h1, pay18_at _ _ c j h0 h1]
  rfl

theorem pay20_at (v262 v267 : IVec S16x256 32) (c : BitVec 32) (j : S16x256.Idx)
    (h0 : v262 j = (st 6 c).1) (h1 : v267 j = rot 17 (st 5 c).2) :
    k0_pay20 v262 v267 j = (st 11 c).2 := by
  simp only [k0_pay20, addi_apply, shli_apply, shrui_apply, ori_apply, xori_apply, broadcast, pay18_at _ _ c j h0 h1, pay19_at _ _ c j h0 h1]
  rfl

theorem pay21_at (v262 v267 : IVec S16x256 32) (c : BitVec 32) (j : S16x256.Idx)
    (h0 : v262 j = (st 6 c).1) (h1 : v267 j = rot 17 (st 5 c).2) :
    k0_pay21 v262 v267 j = (st 12 c).1 := by
  simp only [k0_pay21, addi_apply, shli_apply, shrui_apply, ori_apply, xori_apply, broadcast, pay19_at _ _ c j h0 h1, pay20_at _ _ c j h0 h1]
  rfl

theorem pay22_at (v262 v267 : IVec S16x256 32) (c : BitVec 32) (j : S16x256.Idx)
    (h0 : v262 j = (st 6 c).1) (h1 : v267 j = rot 17 (st 5 c).2) :
    k0_pay22 v262 v267 j = (st 12 c).2 := by
  simp only [k0_pay22, addi_apply, shli_apply, shrui_apply, ori_apply, xori_apply, broadcast, pay20_at _ _ c j h0 h1, pay21_at _ _ c j h0 h1]
  rfl

theorem pay23_at (v262 v267 : IVec S16x256 32) (c : BitVec 32) (j : S16x256.Idx)
    (h0 : v262 j = (st 6 c).1) (h1 : v267 j = rot 17 (st 5 c).2) :
    k0_pay23 v262 v267 j = (st 13 c).1 := by
  simp only [k0_pay23, addi_apply, shli_apply, shrui_apply, ori_apply, xori_apply, broadcast, pay21_at _ _ c j h0 h1, pay22_at _ _ c j h0 h1]
  rfl

theorem pay24_at (v262 v267 : IVec S16x256 32) (c : BitVec 32) (j : S16x256.Idx)
    (h0 : v262 j = (st 6 c).1) (h1 : v267 j = rot 17 (st 5 c).2) :
    k0_pay24 v262 v267 j = rot 26 (st 12 c).2 := by
  simp only [k0_pay24, addi_apply, shli_apply, shrui_apply, ori_apply, xori_apply, broadcast, pay22_at _ _ c j h0 h1]
  rfl

theorem pay25_at (v308 v313 : IVec S16x256 32) (c : BitVec 32) (j : S16x256.Idx)
    (h0 : v308 j = (st 13 c).1) (h1 : v313 j = rot 26 (st 12 c).2) :
    k0_pay25 v308 v313 j = (st 13 c).2 := by
  simp only [k0_pay25, addi_apply, shli_apply, shrui_apply, ori_apply, xori_apply, broadcast, h0, h1]
  rfl

theorem pay26_at (v308 v313 : IVec S16x256 32) (c : BitVec 32) (j : S16x256.Idx)
    (h0 : v308 j = (st 13 c).1) (h1 : v313 j = rot 26 (st 12 c).2) :
    k0_pay26 v308 v313 j = (st 14 c).1 := by
  simp only [k0_pay26, addi_apply, shli_apply, shrui_apply, ori_apply, xori_apply, broadcast, h0, pay25_at _ _ c j h0 h1]
  rfl

theorem pay27_at (v308 v313 : IVec S16x256 32) (c : BitVec 32) (j : S16x256.Idx)
    (h0 : v308 j = (st 13 c).1) (h1 : v313 j = rot 26 (st 12 c).2) :
    k0_pay27 v308 v313 j = (st 15 c).2 := by
  simp only [k0_pay27, addi_apply, shli_apply, shrui_apply, ori_apply, xori_apply, broadcast, pay25_at _ _ c j h0 h1, pay26_at _ _ c j h0 h1]
  rfl

theorem pay28_at (v308 v313 : IVec S16x256 32) (c : BitVec 32) (j : S16x256.Idx)
    (h0 : v308 j = (st 13 c).1) (h1 : v313 j = rot 26 (st 12 c).2) :
    k0_pay28 v308 v313 j = (st 16 c).1 := by
  simp only [k0_pay28, addi_apply, shli_apply, shrui_apply, ori_apply, xori_apply, broadcast, pay26_at _ _ c j h0 h1, pay27_at _ _ c j h0 h1]
  rfl

theorem pay29_at (v308 v313 : IVec S16x256 32) (c : BitVec 32) (j : S16x256.Idx)
    (h0 : v308 j = (st 13 c).1) (h1 : v313 j = rot 26 (st 12 c).2) :
    k0_pay29 v308 v313 j = (st 16 c).2 := by
  simp only [k0_pay29, addi_apply, shli_apply, shrui_apply, ori_apply, xori_apply, broadcast, pay27_at _ _ c j h0 h1, pay28_at _ _ c j h0 h1]
  rfl

theorem pay30_at (v308 v313 : IVec S16x256 32) (c : BitVec 32) (j : S16x256.Idx)
    (h0 : v308 j = (st 13 c).1) (h1 : v313 j = rot 26 (st 12 c).2) :
    k0_pay30 v308 v313 j = (st 17 c).1 := by
  simp only [k0_pay30, addi_apply, shli_apply, shrui_apply, ori_apply, xori_apply, broadcast, pay28_at _ _ c j h0 h1, pay29_at _ _ c j h0 h1]
  rfl

theorem pay31_at (v308 v313 : IVec S16x256 32) (c : BitVec 32) (j : S16x256.Idx)
    (h0 : v308 j = (st 13 c).1) (h1 : v313 j = rot 26 (st 12 c).2) :
    k0_pay31 v308 v313 j = (st 17 c).2 := by
  simp only [k0_pay31, addi_apply, shli_apply, shrui_apply, ori_apply, xori_apply, broadcast, pay29_at _ _ c j h0 h1, pay30_at _ _ c j h0 h1]
  rfl

theorem pay32_at (v308 v313 : IVec S16x256 32) (c : BitVec 32) (j : S16x256.Idx)
    (h0 : v308 j = (st 13 c).1) (h1 : v313 j = rot 26 (st 12 c).2) :
    k0_pay32 v308 v313 j = (st 18 c).1 := by
  simp only [k0_pay32, addi_apply, shli_apply, shrui_apply, ori_apply, xori_apply, broadcast, pay30_at _ _ c j h0 h1, pay31_at _ _ c j h0 h1]
  rfl

theorem pay33_at (v308 v313 : IVec S16x256 32) (c : BitVec 32) (j : S16x256.Idx)
    (h0 : v308 j = (st 13 c).1) (h1 : v313 j = rot 26 (st 12 c).2) :
    k0_pay33 v308 v313 j = (st 18 c).2 := by
  simp only [k0_pay33, addi_apply, shli_apply, shrui_apply, ori_apply, xori_apply, broadcast, pay31_at _ _ c j h0 h1, pay32_at _ _ c j h0 h1]
  rfl

theorem pay34_at (v308 v313 : IVec S16x256 32) (c : BitVec 32) (j : S16x256.Idx)
    (h0 : v308 j = (st 13 c).1) (h1 : v313 j = rot 26 (st 12 c).2) :
    k0_pay34 v308 v313 j = (st 19 c).1 := by
  simp only [k0_pay34, addi_apply, shli_apply, shrui_apply, ori_apply, xori_apply, broadcast, pay32_at _ _ c j h0 h1, pay33_at _ _ c j h0 h1]
  rfl

theorem pay35_at (v308 v313 : IVec S16x256 32) (c : BitVec 32) (j : S16x256.Idx)
    (h0 : v308 j = (st 13 c).1) (h1 : v313 j = rot 26 (st 12 c).2) :
    k0_pay35 v308 v313 j = (st 20 c).2 := by
  simp only [k0_pay35, addi_apply, shli_apply, shrui_apply, ori_apply, xori_apply, broadcast, pay33_at _ _ c j h0 h1, pay34_at _ _ c j h0 h1]
  rfl

theorem pay36_at (v308 v313 : IVec S16x256 32) (c : BitVec 32) (j : S16x256.Idx)
    (h0 : v308 j = (st 13 c).1) (h1 : v313 j = rot 26 (st 12 c).2) :
    k0_pay36 v308 v313 j = (st 21 c).1 := by
  simp only [k0_pay36, addi_apply, shli_apply, shrui_apply, ori_apply, xori_apply, broadcast, pay34_at _ _ c j h0 h1, pay35_at _ _ c j h0 h1]
  rfl

/-- The counter of lane `j` in the last, partial tile. -/
def tailCtr (i : grid0.Coords) (j : S16x256.Idx) : BitVec 32 := k0_pay41 i j + 99840#32

theorem pay50_at (i : grid0.Coords) (j : S16x256.Idx) : k0_pay50 i j = start (tailCtr i j) := rfl

theorem pay51_at (i : grid0.Coords) (j : S16x256.Idx) :
    k0_pay51 i j = (st 1 (tailCtr i j)).2 := by
  simp only [k0_pay51, addi_apply, shli_apply, shrui_apply, ori_apply, xori_apply, broadcast, pay50_at]
  rfl

theorem pay52_at (i : grid0.Coords) (j : S16x256.Idx) :
    k0_pay52 i j = (st 2 (tailCtr i j)).1 := by
  simp only [k0_pay52, addi_apply, shli_apply, shrui_apply, ori_apply, xori_apply, broadcast, pay50_at, pay51_at]
  rfl

theorem pay53_at (i : grid0.Coords) (j : S16x256.Idx) :
    k0_pay53 i j = (st 2 (tailCtr i j)).2 := by
  simp only [k0_pay53, addi_apply, shli_apply, shrui_apply, ori_apply, xori_apply, broadcast, pay51_at, pay52_at]
  rfl

theorem pay54_at (i : grid0.Coords) (j : S16x256.Idx) :
    k0_pay54 i j = (st 3 (tailCtr i j)).1 := by
  simp only [k0_pay54, addi_apply, shli_apply, shrui_apply, ori_apply, xori_apply, broadcast, pay52_at, pay53_at]
  rfl

theorem pay55_at (i : grid0.Coords) (j : S16x256.Idx) :
    k0_pay55 i j = (st 2 (tailCtr i j)).2 <<< 26 := by
  simp only [k0_pay55, addi_apply, shli_apply, shrui_apply, ori_apply, xori_apply, broadcast, pay53_at]
  rfl

theorem pay57_at (v33 v34 v36 v37 : IVec S16x256 32) (c : BitVec 32) (j : S16x256.Idx)
    (h0 : v33 j = (st 2 c).2) (h1 : v34 j = (st 3 c).1) (h2 : v36 j = (st 2 c).2 <<< 26) (h3 : v37 j = 6#32) :
    k0_pay57 v33 v34 v36 v37 j = (st 3 c).2 := by
  simp only [k0_pay57, addi_apply, shli_apply, shrui_apply, ori_apply, xori_apply, broadcast, h0, h1, h2, h3]
  rfl

theorem pay58_at (v33 v34 v36 v37 : IVec S16x256 32) (c : BitVec 32) (j : S16x256.Idx)
    (h0 : v33 j = (st 2 c).2) (h1 : v34 j = (st 3 c).1) (h2 : v36 j = (st 2 c).2 <<< 26) (h3 : v37 j = 6#32) :
    k0_pay58 v33 v34 v36 v37 j = (st 4 c).1 := by
  simp only [k0_pay58, addi_apply, shli_apply, shrui_apply, ori_apply, xori_apply, broadcast, h1, pay57_at _ _ _ _ c j h0 h1 h2 h3]
  rfl

theorem pay59_at (v33 v34 v36 v37 : IVec S16x256 32) (c : BitVec 32) (j : S16x256.Idx)
    (h0 : v33 j = (st 2 c).2) (h1 : v34 j = (st 3 c).1) (h2 : v36 j = (st 2 c).2 <<< 26) (h3 : v37 j = 6#32) :
    k0_pay59 v33 v34 v36 v37 j = (st 5 c).2 := by
  simp only [k0_pay59, addi_apply, shli_apply, shrui_apply, ori_apply, xori_apply, broadcast, pay57_at _ _ _ _ c j h0 h1 h2 h3, pay58_at _ _ _ _ c j h0 h1 h2 h3]
  rfl

theorem pay60_at (v33 v34 v36 v37 : IVec S16x256 32) (c : BitVec 32) (j : S16x256.Idx)
    (h0 : v33 j = (st 2 c).2) (h1 : v34 j = (st 3 c).1) (h2 : v36 j = (st 2 c).2 <<< 26) (h3 : v37 j = 6#32) :
    k0_pay60 v33 v34 v36 v37 j = (st 6 c).1 := by
  simp only [k0_pay60, addi_apply, shli_apply, shrui_apply, ori_apply, xori_apply, broadcast, pay58_at _ _ _ _ c j h0 h1 h2 h3, pay59_at _ _ _ _ c j h0 h1 h2 h3]
  rfl

theorem pay61_at (v33 v34 v36 v37 : IVec S16x256 32) (c : BitVec 32) (j : S16x256.Idx)
    (h0 : v33 j = (st 2 c).2) (h1 : v34 j = (st 3 c).1) (h2 : v36 j = (st 2 c).2 <<< 26) (h3 : v37 j = 6#32) :
    k0_pay61 v33 v34 v36 v37 j = (st 6 c).2 := by
  simp only [k0_pay61, addi_apply, shli_apply, shrui_apply, ori_apply, xori_apply, broadcast, pay59_at _ _ _ _ c j h0 h1 h2 h3, pay60_at _ _ _ _ c j h0 h1 h2 h3]
  rfl

theorem pay62_at (v33 v34 v36 v37 : IVec S16x256 32) (c : BitVec 32) (j : S16x256.Idx)
    (h0 : v33 j = (st 2 c).2) (h1 : v34 j = (st 3 c).1) (h2 : v36 j = (st 2 c).2 <<< 26) (h3 : v37 j = 6#32) :
    k0_pay62 v33 v34 v36 v37 j = (st 7 c).1 := by
  simp only [k0_pay62, addi_apply, shli_apply, shrui_apply, ori_apply, xori_apply, broadcast, pay60_at _ _ _ _ c j h0 h1 h2 h3, pay61_at _ _ _ _ c j h0 h1 h2 h3]
  rfl

theorem pay63_at (v33 v34 v36 v37 : IVec S16x256 32) (c : BitVec 32) (j : S16x256.Idx)
    (h0 : v33 j = (st 2 c).2) (h1 : v34 j = (st 3 c).1) (h2 : v36 j = (st 2 c).2 <<< 26) (h3 : v37 j = 6#32) :
    k0_pay63 v33 v34 v36 v37 j = (st 7 c).2 := by
  simp only [k0_pay63, addi_apply, shli_apply, shrui_apply, ori_apply, xori_apply, broadcast, pay61_at _ _ _ _ c j h0 h1 h2 h3, pay62_at _ _ _ _ c j h0 h1 h2 h3]
  rfl

theorem pay64_at (v33 v34 v36 v37 : IVec S16x256 32) (c : BitVec 32) (j : S16x256.Idx)
    (h0 : v33 j = (st 2 c).2) (h1 : v34 j = (st 3 c).1) (h2 : v36 j = (st 2 c).2 <<< 26) (h3 : v37 j = 6#32) :
    k0_pay64 v33 v34 v36 v37 j = (st 8 c).1 := by
  simp only [k0_pay64, addi_apply, shli_apply, shrui_apply, ori_apply, xori_apply, broadcast, pay62_at _ _ _ _ c j h0 h1 h2 h3, pay63_at _ _ _ _ c j h0 h1 h2 h3]
  rfl

theorem pay65_at (v33 v34 v36 v37 : IVec S16x256 32) (c : BitVec 32) (j : S16x256.Idx)
    (h0 : v33 j = (st 2 c).2) (h1 : v34 j = (st 3 c).1) (h2 : v36 j = (st 2 c).2 <<< 26) (h3 : v37 j = 6#32) :
    k0_pay65 v33 v34 v36 v37 j = (st 8 c).2 := by
  simp only [k0_pay65, addi_apply, shli_apply, shrui_apply, ori_apply, xori_apply, broadcast, pay63_at _ _ _ _ c j h0 h1 h2 h3, pay64_at _ _ _ _ c j h0 h1 h2 h3]
  rfl

theorem pay66_at (v33 v34 v36 v37 : IVec S16x256 32) (c : BitVec 32) (j : S16x256.Idx)
    (h0 : v33 j = (st 2 c).2) (h1 : v34 j = (st 3 c).1) (h2 : v36 j = (st 2 c).2 <<< 26) (h3 : v37 j = 6#32) :
    k0_pay66 v33 v34 v36 v37 j = (st 9 c).1 := by
  simp only [k0_pay66, addi_apply, shli_apply, shrui_apply, ori_apply, xori_apply, broadcast, pay64_at _ _ _ _ c j h0 h1 h2 h3, pay65_at _ _ _ _ c j h0 h1 h2 h3]
  rfl

theorem pay67_at (v33 v34 v36 v37 : IVec S16x256 32) (c : BitVec 32) (j : S16x256.Idx)
    (h0 : v33 j = (st 2 c).2) (h1 : v34 j = (st 3 c).1) (h2 : v36 j = (st 2 c).2 <<< 26) (h3 : v37 j = 6#32) :
    k0_pay67 v33 v34 v36 v37 j = (st 10 c).1 := by
  simp only [k0_pay67, addi_apply, shli_apply, shrui_apply, ori_apply, xori_apply, broadcast, pay66_at _ _ _ _ c j h0 h1 h2 h3]
  rfl

theorem pay68_at (v33 v34 v36 v37 : IVec S16x256 32) (c : BitVec 32) (j : S16x256.Idx)
    (h0 : v33 j = (st 2 c).2) (h1 : v34 j = (st 3 c).1) (h2 : v36 j = (st 2 c).2 <<< 26) (h3 : v37 j = 6#32) :
    k0_pay68 v33 v34 v36 v37 j = (st 10 c).2 := by
  simp only [k0_pay68, addi_apply, shli_apply, shrui_apply, ori_apply, xori_apply, broadcast, pay65_at _ _ _ _ c j h0 h1 h2 h3, pay66_at _ _ _ _ c j h0 h1 h2 h3]
  rfl

theorem pay69_at (v81 v83 : IVec S16x256 32) (c : BitVec 32) (j : S16x256.Idx)
    (h0 : v81 j = (st 10 c).1) (h1 : v83 j = (st 10 c).2) :
    k0_pay69 v81 v83 j = (st 11 c).1 := by
  simp only [k0_pay69, addi_apply, shli_apply, shrui_apply, ori_apply, xori_apply, broadcast, h0, h1]
  rfl

theorem pay70_at (v81 v83 : IVec S16x256 32) (c : BitVec 32) (j : S16x256.Idx)
    (h0 : v81 j = (st 10 c).1) (h1 : v83 j = (st 10 c).2) :
    k0_pay70 v81 v83 j = (st 11 c).2 := by
  simp only [k0_pay70, addi_apply, shli_apply, shrui_apply, ori_apply, xori_apply, broadcast, h1, pay69_at _ _ c j h0 h1]
  rfl

theorem pay71_at (v81 v83 : IVec S16x256 32) (c : BitVec 32) (j : S16x256.Idx)
    (h0 : v81 j = (st 10 c).1) (h1 : v83 j = (st 10 c).2) :
    k0_pay71 v81 v83 j = (st 12 c).1 := by
  simp only [k0_pay71, addi_apply, shli_apply, shrui_apply, ori_apply, xori_apply, broadcast, pay69_at _ _ c j h0 h1, pay70_at _ _ c j h0 h1]
  rfl

theorem pay72_at (v81 v83 : IVec S16x256 32) (c : BitVec 32) (j : S16x256.Idx)
    (h0 : v81 j = (st 10 c).1) (h1 : v83 j = (st 10 c).2) :
    k0_pay72 v81 v83 j = (st 12 c).2 := by
  simp only [k0_pay72, addi_apply, shli_apply, shrui_apply, ori_apply, xori_apply, broadcast, pay70_at _ _ c j h0 h1, pay71_at _ _ c j h0 h1]
  rfl

theorem pay73_at (v81 v83 : IVec S16x256 32) (c : BitVec 32) (j : S16x256.Idx)
    (h0 : v81 j = (st 10 c).1) (h1 : v83 j = (st 10 c).2) :
    k0_pay73 v81 v83 j = (st 13 c).1 := by
  simp only [k0_pay73, addi_apply, shli_apply, shrui_apply, ori_apply, xori_apply, broadcast, pay71_at _ _ c j h0 h1, pay72_at _ _ c j h0 h1]
  rfl

theorem pay74_at (v81 v83 : IVec S16x256 32) (c : BitVec 32) (j : S16x256.Idx)
    (h0 : v81 j = (st 10 c).1) (h1 : v83 j = (st 10 c).2) :
    k0_pay74 v81 v83 j = (st 13 c).2 := by
  simp only [k0_pay74, addi_apply, shli_apply, shrui_apply, ori_apply, xori_apply, broadcast, pay72_at _ _ c j h0 h1, pay73_at _ _ c j h0 h1]
  rfl

theorem pay75_at (v81 v83 : IVec S16x256 32) (c : BitVec 32) (j : S16x256.Idx)
    (h0 : v81 j = (st 10 c).1) (h1 : v83 j = (st 10 c).2) :
    k0_pay75 v81 v83 j = (st 14 c).1 := by
  simp only [k0_pay75, addi_apply, shli_apply, shrui_apply, ori_apply, xori_apply, broadcast, pay73_at _ _ c j h0 h1, pay74_at _ _ c j h0 h1]
  rfl

theorem pay76_at (v81 v83 : IVec S16x256 32) (c : BitVec 32) (j : S16x256.Idx)
    (h0 : v81 j = (st 10 c).1) (h1 : v83 j = (st 10 c).2) :
    k0_pay76 v81 v83 j = (st 15 c).2 := by
  simp only [k0_pay76, addi_apply, shli_apply, shrui_apply, ori_apply, xori_apply, broadcast, pay74_at _ _ c j h0 h1, pay75_at _ _ c j h0 h1]
  rfl

theorem pay77_at (v81 v83 : IVec S16x256 32) (c : BitVec 32) (j : S16x256.Idx)
    (h0 : v81 j = (st 10 c).1) (h1 : v83 j = (st 10 c).2) :
    k0_pay77 v81 v83 j = (st 16 c).1 := by
  simp only [k0_pay77, addi_apply, shli_apply, shrui_apply, ori_apply, xori_apply, broadcast, pay75_at _ _ c j h0 h1, pay76_at _ _ c j h0 h1]
  rfl

theorem pay78_at (v81 v83 : IVec S16x256 32) (c : BitVec 32) (j : S16x256.Idx)
    (h0 : v81 j = (st 10 c).1) (h1 : v83 j = (st 10 c).2) :
    k0_pay78 v81 v83 j = (st 16 c).2 := by
  simp only [k0_pay78, addi_apply, shli_apply, shrui_apply, ori_apply, xori_apply, broadcast, pay76_at _ _ c j h0 h1, pay77_at _ _ c j h0 h1]
  rfl

theorem pay79_at (v81 v83 : IVec S16x256 32) (c : BitVec 32) (j : S16x256.Idx)
    (h0 : v81 j = (st 10 c).1) (h1 : v83 j = (st 10 c).2) :
    k0_pay79 v81 v83 j = (st 17 c).1 := by
  simp only [k0_pay79, addi_apply, shli_apply, shrui_apply, ori_apply, xori_apply, broadcast, pay77_at _ _ c j h0 h1, pay78_at _ _ c j h0 h1]
  rfl

theorem pay80_at (v81 v83 : IVec S16x256 32) (c : BitVec 32) (j : S16x256.Idx)
    (h0 : v81 j = (st 10 c).1) (h1 : v83 j = (st 10 c).2) :
    k0_pay80 v81 v83 j = (st 17 c).2 := by
  simp only [k0_pay80, addi_apply, shli_apply, shrui_apply, ori_apply, xori_apply, broadcast, pay78_at _ _ c j h0 h1, pay79_at _ _ c j h0 h1]
  rfl

theorem pay81_at (v123 v129 : IVec S16x256 32) (c : BitVec 32) (j : S16x256.Idx)
    (h0 : v123 j = (st 17 c).1) (h1 : v129 j = (st 17 c).2) :
    k0_pay81 v123 v129 j = (st 18 c).1 := by
  simp only [k0_pay81, addi_apply, shli_apply, shrui_apply, ori_apply, xori_apply, broadcast, h0, h1]
  rfl

theorem pay82_at (v123 v129 : IVec S16x256 32) (c : BitVec 32) (j : S16x256.Idx)
    (h0 : v123 j = (st 17 c).1) (h1 : v129 j = (st 17 c).2) :
    k0_pay82 v123 v129 j = (st 18 c).2 := by
  simp only [k0_pay82, addi_apply, shli_apply, shrui_apply, ori_apply, xori_apply, broadcast, h1, pay81_at _ _ c j h0 h1]
  rfl

theorem pay83_at (v123 v129 : IVec S16x256 32) (c : BitVec 32) (j : S16x256.Idx)
    (h0 : v123 j = (st 17 c).1) (h1 : v129 j = (st 17 c).2) :
    k0_pay83 v123 v129 j = (st 19 c).1 := by
  simp only [k0_pay83, addi_apply, shli_apply, shrui_apply, ori_apply, xori_apply, broadcast, pay81_at _ _ c j h0 h1, pay82_at _ _ c j h0 h1]
  rfl

theorem pay84_at (v123 v129 : IVec S16x256 32) (c : BitVec 32) (j : S16x256.Idx)
    (h0 : v123 j = (st 17 c).1) (h1 : v129 j = (st 17 c).2) :
    k0_pay84 v123 v129 j = (st 20 c).2 := by
  simp only [k0_pay84, addi_apply, shli_apply, shrui_apply, ori_apply, xori_apply, broadcast, pay82_at _ _ c j h0 h1, pay83_at _ _ c j h0 h1]
  rfl

theorem pay85_at (v123 v129 : IVec S16x256 32) (c : BitVec 32) (j : S16x256.Idx)
    (h0 : v123 j = (st 17 c).1) (h1 : v129 j = (st 17 c).2) :
    k0_pay85 v123 v129 j = (st 21 c).1 := by
  simp only [k0_pay85, addi_apply, shli_apply, shrui_apply, ori_apply, xori_apply, broadcast, pay83_at _ _ c j h0 h1, pay84_at _ _ c j h0 h1]
  rfl

theorem pay86_at (v123 v129 : IVec S16x256 32) (c : BitVec 32) (j : S16x256.Idx)
    (h0 : v123 j = (st 17 c).1) (h1 : v129 j = (st 17 c).2) :
    k0_pay86 v123 v129 j = (st 21 c).2 := by
  simp only [k0_pay86, addi_apply, shli_apply, shrui_apply, ori_apply, xori_apply, broadcast, pay84_at _ _ c j h0 h1, pay85_at _ _ c j h0 h1]
  rfl

theorem pay87_at (v123 v129 : IVec S16x256 32) (c : BitVec 32) (j : S16x256.Idx)
    (h0 : v123 j = (st 17 c).1) (h1 : v129 j = (st 17 c).2) :
    k0_pay87 v123 v129 j = (st 22 c).1 := by
  simp only [k0_pay87, addi_apply, shli_apply, shrui_apply, ori_apply, xori_apply, broadcast, pay85_at _ _ c j h0 h1, pay86_at _ _ c j h0 h1]
  rfl

theorem pay88_at (v123 v129 : IVec S16x256 32) (c : BitVec 32) (j : S16x256.Idx)
    (h0 : v123 j = (st 17 c).1) (h1 : v129 j = (st 17 c).2) :
    k0_pay88 v123 v129 j = (st 22 c).2 := by
  simp only [k0_pay88, addi_apply, shli_apply, shrui_apply, ori_apply, xori_apply, broadcast, pay86_at _ _ c j h0 h1, pay87_at _ _ c j h0 h1]
  rfl

theorem pay89_at (v123 v129 : IVec S16x256 32) (c : BitVec 32) (j : S16x256.Idx)
    (h0 : v123 j = (st 17 c).1) (h1 : v129 j = (st 17 c).2) :
    k0_pay89 v123 v129 j = (st 23 c).1 := by
  simp only [k0_pay89, addi_apply, shli_apply, shrui_apply, ori_apply, xori_apply, broadcast, pay87_at _ _ c j h0 h1, pay88_at _ _ c j h0 h1]
  rfl

theorem pay90_at (v123 v129 : IVec S16x256 32) (c : BitVec 32) (j : S16x256.Idx)
    (h0 : v123 j = (st 17 c).1) (h1 : v129 j = (st 17 c).2) :
    k0_pay90 v123 v129 j = (st 23 c).2 := by
  simp only [k0_pay90, addi_apply, shli_apply, shrui_apply, ori_apply, xori_apply, broadcast, pay88_at _ _ c j h0 h1, pay89_at _ _ c j h0 h1]
  rfl

theorem pay91_at (v123 v129 : IVec S16x256 32) (c : BitVec 32) (j : S16x256.Idx)
    (h0 : v123 j = (st 17 c).1) (h1 : v129 j = (st 17 c).2) :
    k0_pay91 v123 v129 j = (st 24 c).1 := by
  simp only [k0_pay91, addi_apply, shli_apply, shrui_apply, ori_apply, xori_apply, broadcast, pay89_at _ _ c j h0 h1, pay90_at _ _ c j h0 h1]
  rfl

theorem pay92_at (v123 v129 : IVec S16x256 32) (c : BitVec 32) (j : S16x256.Idx)
    (h0 : v123 j = (st 17 c).1) (h1 : v129 j = (st 17 c).2) :
    k0_pay92 v123 v129 j = (st 24 c).2 := by
  simp only [k0_pay92, addi_apply, shli_apply, shrui_apply, ori_apply, xori_apply, broadcast, pay90_at _ _ c j h0 h1, pay91_at _ _ c j h0 h1]
  rfl

end Cert.KernelIdeal.Draws

end

end
-- ==== Proof.KPlumb.lean ====
/-
  The kernel's blocks as terms: what one grid point leaves in the two output blocks, written over the 390 trips of its
  loop and the last, partial tile.
-/
module

public import proofs.«01_k».proof.Proof.Gen.KernelIdeal.Value
public import proofs.«01_k».proof.Proof.KDraw

@[expose] public section

set_option maxRecDepth 65536

noncomputable section

namespace Cert.KernelIdeal.Plumb

open Cert.KernelIdeal Cert.KernelIdeal.Gen Idealize.ShloMosaic

variable {F : FTy → Type} [FloatOps F]

/-- What the loop carries: the sums, the leading weights, the leading numbers and the leading tiles. -/
abbrev Carry (F : FTy → Type) : Type :=
  FVec F S16x256 .f32 × FVec F S16x256 .f32 × FVec F S16x256 .f32 × IVec S16x256 32

/-- One trip, on the tile `v` it loads. -/
def trip (i : grid0.Coords) (v : Vec F S16x256 .f32) (k : Fin k0_t1_loop.trips) (acc : Carry F) : Carry F :=
  let p := k0_pay10 (k0_pay41 i) 0#32 1#32 k
  let q := k0_pay11 (k0_pay41 i) 0#32 1#32 k
  let p' := k0_pay23 p q
  let q' := k0_pay24 p q
  let a := k0_pay35 p' q'
  let b := k0_pay36 p' q'
  let u := k0_pay40 acc.2.1 acc.2.2.1 v a b 13#32
  (k0_pay39 acc.1 v, k0_pay46 acc.2.1 (k0_pay38 v) u, k0_pay47 acc.2.2.1 (k0_pay37 a b 13#32) u,
    k0_pay48 acc.2.2.2 (Scf.iv 0#32 1#32 k) u)

theorem tripR_eq (𝒱 : Variants) (c : Dev nD) (bd : Option 𝒱.V) (i : grid0.Coords) (arg1 : Memref sig .tc .vmem S16x100000 .f32)
    (harg1 : arg1.IsWhole) (arg2 : Memref sig .tc .vmem S16x1 .i32) (harg2 : arg2.IsWhole)
    (arg3 : Memref sig .tc .vmem S16x1 .f32) (harg3 : arg3.IsWhole) (x0 : Vec F S16x100000 .f32)
    (k : Fin k0_t1_loop.trips) (acc : Carry F) :
    tripR_k0_t1 (F := F) 𝒱 c bd i arg1 harg1 arg2 harg2 arg3 harg3 (harg1.unread x0) k acc
      = trip i (View.ld x0 (Rect.unit (s := S16x100000) (k0_off1 k) S16x256.size (k0_off1_inb k))) k acc := by
  unfold tripR_k0_t1 trip_k0_t1
  dsimp only
  sl_unfold_words
  simp only [View.readAt_eq_ld, harg1.read_unread]
  rfl

/-- The tile trip `k` loads of the block `x0`. -/
def tileAt (x0 : Vec F S16x100000 .f32) (k : Fin k0_t1_loop.trips) : Vec F S16x256 .f32 :=
  View.ld x0 (Rect.unit (s := S16x100000) (k0_off1 k) S16x256.size (k0_off1_inb k))

/-- The last tile, filled up with minus infinity. -/
def lastTile (x0 : Vec F S16x100000 .f32) : FVec F S16x256 .f32 :=
  k0_pay49 (View.ld x0 (Rect.unit (s := S16x100000) ![0, 99840] S16x160.size inb_S16x100000_S16x160_0_99840))

/-- What the loop carries before trip `k`. -/
def carry (i : grid0.Coords) (x0 : Vec F S16x100000 .f32) : ℕ → Carry F
  | 0 => (k0_pay42, k0_pay43, k0_pay44, k0_pay45)
  | k + 1 => if h : k < k0_t1_loop.trips then trip i (tileAt x0 ⟨k, h⟩) ⟨k, h⟩ (carry i x0 k) else carry i x0 k

theorem st_eq_carry (𝒱 : Variants) (c : Dev nD) (bd : Option 𝒱.V) (i : grid0.Coords) (arg1 : Memref sig .tc .vmem S16x100000 .f32)
    (harg1 : arg1.IsWhole) (arg2 : Memref sig .tc .vmem S16x1 .i32) (harg2 : arg2.IsWhole)
    (arg3 : Memref sig .tc .vmem S16x1 .f32) (harg3 : arg3.IsWhole) (x0 : Vec F S16x100000 .f32) (k : ℕ)
    (hk : k ≤ k0_t1_loop.trips) :
    st_k0_t1 (F := F) 𝒱 c bd i arg1 harg1 arg2 harg2 arg3 harg3 (harg1.unread x0)
      (k0_pay42, k0_pay43, k0_pay44, k0_pay45) k = carry i x0 k := by
  induction k with
  | zero => exact st_k0_t1_zero ..
  | succ k ih =>
    have h : k < k0_t1_loop.trips := hk
    have e := st_k0_t1_succ (F := F) 𝒱 c bd i arg1 harg1 arg2 harg2 arg3 harg3 (harg1.unread x0)
      (k0_pay42, k0_pay43, k0_pay44, k0_pay45) ⟨k, h⟩
    dsimp only at e
    rw [e, ih h.le, tripR_eq, carry, dif_pos h]
    rfl

/-- The word pair before the last round of the last tile. -/
def tailA (i : grid0.Coords) : IVec S16x256 32 :=
  k0_pay91 (k0_pay79 (k0_pay67 (k0_pay53 i) (k0_pay54 i) (k0_pay55 i) k0_pay56) (k0_pay68 (k0_pay53 i) (k0_pay54 i) (k0_pay55 i) k0_pay56))
    (k0_pay80 (k0_pay67 (k0_pay53 i) (k0_pay54 i) (k0_pay55 i) k0_pay56) (k0_pay68 (k0_pay53 i) (k0_pay54 i) (k0_pay55 i) k0_pay56))

/-- Its second word. -/
def tailB (i : grid0.Coords) : IVec S16x256 32 :=
  k0_pay92 (k0_pay79 (k0_pay67 (k0_pay53 i) (k0_pay54 i) (k0_pay55 i) k0_pay56) (k0_pay68 (k0_pay53 i) (k0_pay54 i) (k0_pay55 i) k0_pay56))
    (k0_pay80 (k0_pay67 (k0_pay53 i) (k0_pay54 i) (k0_pay55 i) k0_pay56) (k0_pay68 (k0_pay53 i) (k0_pay54 i) (k0_pay55 i) k0_pay56))

/-- What the loop leaves. -/
def final (i : grid0.Coords) (x0 : Vec F S16x100000 .f32) : Carry F := carry i x0 k0_t1_loop.trips

/-- The lanes' own columns. -/
def lanes : IVec S16x256 32 := iota .tc S16x256 32 [1] iota_S16x256_d1_w32

/-- The block of samples. -/
def blockA (i : grid0.Coords) (x0 : Vec F S16x100000 .f32) : IVec S16x1 32 :=
  k0_pay98 lanes (final i x0).2.1 (final i x0).2.2.1 (final i x0).2.2.2 (lastTile x0) (tailA i) (tailB i)

/-- The block of log-probabilities. -/
def blockL (i : grid0.Coords) (x0 : Vec F S16x100000 .f32) : FVec F S16x1 .f32 :=
  k0_pay1 (k0_pay99 lanes (final i x0).2.1 (final i x0).2.2.1 (final i x0).2.2.2 (lastTile x0) (tailA i) (tailB i))
    (k0_pay100 (final i x0).1 (lastTile x0))

theorem out1_eq (c : Dev nD) (i : grid0.Coords) (arg1 : Memref sig .tc .vmem S16x100000 .f32)
    (harg1 : arg1.IsWhole) (arg2 : Memref sig .tc .vmem S16x1 .i32) (harg2 : arg2.IsWhole)
    (arg3 : Memref sig .tc .vmem S16x1 .f32) (harg3 : arg3.IsWhole) (x0 : Vec F S16x100000 .f32) :
    out0_A_1 (F := F) c i arg1 harg1 arg2 harg2 arg3 harg3 x0 = blockA i x0 := by
  unfold out0_A_1
  rw [View.read_writes_eq_canon _ _ _ (cover0_A_1 c i arg1 harg1 arg2 harg2 arg3 harg3 x0)]
  unfold kernelRun0_A
  dsimp only
  sl_unfold_words
  simp only [View.readAt_eq_ld, harg1.read_unread]
  rw [View.canon_unit_zero (S := S16x1) (by decide)]
  simp only [st_eq_carry _ _ _ _ _ _ _ _ _ _ _ _ (Nat.le_refl _)]
  rfl

theorem out2_eq (c : Dev nD) (i : grid0.Coords) (arg1 : Memref sig .tc .vmem S16x100000 .f32)
    (harg1 : arg1.IsWhole) (arg2 : Memref sig .tc .vmem S16x1 .i32) (harg2 : arg2.IsWhole)
    (arg3 : Memref sig .tc .vmem S16x1 .f32) (harg3 : arg3.IsWhole) (x0 : Vec F S16x100000 .f32) :
    out0_A_2 (F := F) c i arg1 harg1 arg2 harg2 arg3 harg3 x0 = blockL i x0 := by
  unfold out0_A_2
  rw [View.read_writes_eq_canon _ _ _ (cover0_A_2 c i arg1 harg1 arg2 harg2 arg3 harg3 x0)]
  unfold kernelRun0_A
  dsimp only
  sl_unfold_words
  simp only [View.readAt_eq_ld, harg1.read_unread]
  rw [View.canon_unit_zero (S := S16x1) (by decide)]
  simp only [st_eq_carry _ _ _ _ _ _ _ _ _ _ _ _ (Nat.le_refl _)]
  rfl

end Cert.KernelIdeal.Plumb

end

end
-- ==== Proof.KArray.lean ====
/-
  The kernel's output arrays, entry by entry: row `16·t + r` of an output is entry `r` of the block grid point `t` leaves.
-/
module

public import proofs.«01_k».proof.Proof.KPlumb
public import Idealize.ShloMosaic.Lib.ValueIdx
public import Idealize.ShloMosaic.Lib.ValueIdxCoords

@[expose] public section

set_option maxRecDepth 65536

noncomputable section

namespace Cert.KernelIdeal.Plumb

open Cert.KernelIdeal Cert.KernelIdeal.Gen Idealize.ShloMosaic Idealize.ShloMosaic.TcCoe

variable {F : FTy → Type} [FloatOps F]
variable (m : (ℓ : Loc nD τ sig) → Buf (Elt F) ℓ)

/-- The windows move one block of rows per point. -/
theorem idx_facts : ∀ t : Fin cfg0.N, win0_0.index t 0 = t.val ∧ win0_0.index t 1 = 0 ∧ win0_1.index t 0 = t.val
    ∧ win0_1.index t 1 = 0 ∧ win0_2.index t 0 = t.val ∧ win0_2.index t 1 = 0 ∧ (grid0.coords t 0).val = t.val :=
  (by decide +kernel : ∀ t : Fin grid0.N, win0_0.index t 0 = t.val ∧ win0_0.index t 1 = 0 ∧ win0_1.index t 0 = t.val
    ∧ win0_1.index t 1 = 0 ∧ win0_2.index t 0 = t.val ∧ win0_2.index t 1 = 0 ∧ (grid0.coords t 0).val = t.val)

theorem flush1 : ∀ t : Fin cfg0.N, (cfg0.win 1).flush t = true :=
  (by decide +kernel : ∀ t : Fin grid0.N, win0_1.flush t = true)

theorem flush2 : ∀ t : Fin cfg0.N, (cfg0.win 2).flush t = true :=
  (by decide +kernel : ∀ t : Fin grid0.N, win0_2.flush t = true)

/-- Row `r` of the block of point `t`, as a row of the array. -/
def rowOf (t : Fin cfg0.N) (r : Fin 16) : Fin 128 := ⟨16 * t.val + r.val, by have := t.isLt; have : cfg0.N = 8 := rfl; omega⟩

/-- The features as launched. -/
def feats (c : Dev nD) : S128x100000.Idx → Elt F .f32 := m ((c : Thread nD τ).loc main_arg0)

theorem iblk_at (c : Dev nD) (t : Fin cfg0.N) (r : Fin 16) (n : Fin 100000) :
    iblk m c 0 t (ValueIdx.ix2 r n) = feats m c (ValueIdx.ix2 (rowOf t r) n) := by
  unfold iblk
  rw [View.read_apply]
  show feats m c ((win0_0.rect t).emb (ValueIdx.ix2 r n)) = _
  congr 1
  funext a
  apply Fin.ext
  refine (Pipeline.Window.rect_emb_val _ _ _ _ rfl).trans ?_
  obtain ⟨h0, h1, -⟩ := idx_facts t
  match a with
  | ⟨0, _⟩ => show win0_0.index t 0 * 16 + r.val = 16 * t.val + r.val; omega
  | ⟨1, _⟩ => show win0_0.index t 1 * 100000 + n.val = n.val; omega

theorem arr1_at (c : Dev nD) (t : Fin cfg0.N) (r : Fin 16) :
    (dats m 0 c).arrAt 1 cfg0.N (ValueIdx.ix2 (rowOf t r) (0 : Fin 1)) = blockA (grid0.coords t) (iblk m c 0 t) (ValueIdx.ix2 r (0 : Fin 1)) := by
  have h := congrFun (Value.blocks1 m c t (flush1 t)) (ValueIdx.ix2 r (0 : Fin 1))
  rw [View.read_apply, Value.flushed1_A, out1_eq] at h
  refine Eq.trans ?_ h
  show _ = (dats m 0 c).arrAt 1 cfg0.N ((win0_1.rect t).emb (ValueIdx.ix2 r (0 : Fin 1)))
  congr 1
  funext a
  apply Fin.ext
  refine Eq.trans ?_ (Pipeline.Window.rect_emb_val _ _ _ _ rfl).symm
  obtain ⟨-, -, h0, h1, -⟩ := idx_facts t
  match a with
  | ⟨0, _⟩ => show 16 * t.val + r.val = win0_1.index t 0 * 16 + r.val; omega
  | ⟨1, _⟩ => show 0 = win0_1.index t 1 * 1 + 0; omega

theorem arr2_at (c : Dev nD) (t : Fin cfg0.N) (r : Fin 16) :
    (dats m 0 c).arrAt 2 cfg0.N (ValueIdx.ix2 (rowOf t r) (0 : Fin 1)) = blockL (grid0.coords t) (iblk m c 0 t) (ValueIdx.ix2 r (0 : Fin 1)) := by
  have h := congrFun (Value.blocks2 m c t (flush2 t)) (ValueIdx.ix2 r (0 : Fin 1))
  rw [View.read_apply, Value.flushed2_A, out2_eq] at h
  refine Eq.trans ?_ h
  show _ = (dats m 0 c).arrAt 2 cfg0.N ((win0_2.rect t).emb (ValueIdx.ix2 r (0 : Fin 1)))
  congr 1
  funext a
  apply Fin.ext
  refine Eq.trans ?_ (Pipeline.Window.rect_emb_val _ _ _ _ rfl).symm
  obtain ⟨-, -, -, -, h0, h1, -⟩ := idx_facts t
  match a with
  | ⟨0, _⟩ => show 16 * t.val + r.val = win0_2.index t 0 * 16 + r.val; omega
  | ⟨1, _⟩ => show 0 = win0_2.index t 1 * 1 + 0; omega

/-- Every row of an output is a row of some point's block. -/
theorem exists_rowOf (R : Fin 128) : ∃ (t : Fin cfg0.N) (r : Fin 16), rowOf t r = R := by
  refine ⟨⟨R.val / 16, ?_⟩, ⟨R.val % 16, Nat.mod_lt _ (by decide)⟩, ?_⟩
  · have : cfg0.N = 8 := rfl
    omega
  · apply Fin.ext; show 16 * (R.val / 16) + R.val % 16 = R.val; omega

end Cert.KernelIdeal.Plumb

end

end
-- ==== Proof.Uniform.lean ====
/-
  The draws as real numbers: the float made of a word's upper bits is, less one, that many 2⁻²³'s; and the two numbers
  taken from it, the kernel's minus logarithm and the reference's clipped one.
-/
module

public import proofs.«01_k».proof.Proof.Threefry
public import Idealize.ShloMosaic.Lib.IdealHost
public import Mathlib.Analysis.SpecialFunctions.Log.Basic

@[expose] public section

noncomputable section

namespace Cert.Rng

open Idealize.ShloMosaic

theorem log_coe {r : ℝ} (h : 0 < r) : Ideal.log (r : EReal) = (Real.log r : EReal) := if_neg (not_le.2 h)

theorem log_zero : Ideal.log ((0 : ℝ) : EReal) = ⊥ := if_pos le_rfl

/-- Upper 23 bits under the exponent of one: the float between 1 and 2. -/
theorem ofBits_unit (b : BitVec 32) :
    Ideal.ofBits .f32 (b >>> 9 ||| 1065353216#32) = ((1 + (b >>> 9).toNat / 2 ^ 23 : ℝ) : EReal) := by
  have hv : (b >>> 9).toNat < 2 ^ 23 := by
    rw [BitVec.toNat_ushiftRight, Nat.shiftRight_eq_div_pow]
    have := b.isLt
    omega
  generalize b >>> 9 = v at hv
  have hn : (v ||| 1065353216#32).toNat = 2 ^ 23 * 127 + v.toNat := by
    rw [BitVec.toNat_or, Nat.or_comm]
    exact (Nat.two_pow_add_eq_or_of_lt hv 127).symm
  have h1 : ((v ||| 1065353216#32).extractLsb' 31 1 == 1#1) = false := by
    rw [beq_eq_false_iff_ne, Ne, ← BitVec.toNat_inj, BitVec.extractLsb'_toNat, Nat.shiftRight_eq_div_pow, hn]
    simp only [BitVec.toNat_ofNat]
    omega
  have h2 : ((v ||| 1065353216#32).extractLsb' 23 8).toNat = 127 := by
    rw [BitVec.extractLsb'_toNat, Nat.shiftRight_eq_div_pow, hn]
    omega
  have h3 : ((v ||| 1065353216#32).extractLsb' 0 23).toNat = v.toNat := by
    rw [BitVec.extractLsb'_toNat, Nat.shiftRight_eq_div_pow, hn]
    omega
  show Ideal.ieee 8 23 (v ||| 1065353216#32) = _
  unfold Ideal.ieee
  simp only [Nat.reduceAdd, h1, h2, h3, Bool.false_eq_true, if_false]
  rw [if_neg (by norm_num), if_neg (by norm_num), EReal.coe_eq_coe_iff]
  push_cast
  norm_num
  ring

theorem unit_sub_one (b : BitVec 32) :
    Ideal.ofBits .f32 (b >>> 9 ||| 1065353216#32) - Ideal.ofBits .f32 0x3F800000#32
      = (((b >>> 9).toNat / 2 ^ 23 : ℝ) : EReal) := by
  rw [ofBits_unit, Ideal.ofBits_one_f32, show (1 : EReal) = ((1 : ℝ) : EReal) from rfl, ← EReal.coe_sub]
  congr 1
  ring

/-- The kernel's number of a draw: minus its logarithm, infinite at a zero draw. -/
def num (d : ℕ) : EReal := if d = 0 then ⊤ else ((-Real.log (d / 2 ^ 23) : ℝ) : EReal)

/-- The reference's: minus the logarithm of the draw clipped below. -/
def gap (d : ℕ) : ℝ := if d = 0 then 126 * Real.log 2 else -Real.log (d / 2 ^ 23)

theorem num_eq (b : BitVec 32) :
    Ideal.ofBits .f32 0x00000000#32
      - Ideal.log (Ideal.ofBits .f32 (b >>> 9 ||| 1065353216#32) - Ideal.ofBits .f32 0x3F800000#32)
      = num (b >>> 9).toNat := by
  rw [unit_sub_one, Ideal.ofBits_zero_f32]
  unfold num
  split
  · next h => rw [h, Nat.cast_zero, zero_div, log_zero, zero_sub, EReal.neg_bot]
  · next h =>
    have : (0 : ℝ) < (b >>> 9).toNat / 2 ^ 23 := by positivity
    rw [log_coe this, zero_sub, EReal.coe_neg]

theorem ofBits_tiny : Ideal.ofBits .f32 0x00800000#32 = (((2 : ℝ) ^ (-126 : ℤ) : ℝ) : EReal) := by
  simp [Ideal.ofBits, Ideal.ieee, -EReal.coe_mul]
  norm_num

theorem gap_pos {d : ℕ} (h : d < 2 ^ 23) : 0 < gap d := by
  unfold gap
  split
  · have := Real.log_pos (x := 2) (by norm_num)
    linarith
  · next h0 =>
    have h1 : (0 : ℝ) < d := by positivity
    have h2 : (d : ℝ) < 2 ^ 23 := by exact_mod_cast h
    have := Real.log_neg (x := d / 2 ^ 23) (by positivity) (by rw [div_lt_one (by positivity)]; exact h2)
    linarith

/-- The reference's clipped draw, its logarithm negated. -/
theorem clip_eq (b : BitVec 32) :
    -Ideal.log (max (Ideal.ofBits .f32 0x00800000#32)
        (Ideal.ofBits .f32 (b >>> 9 ||| 1065353216#32) - Ideal.ofBits .f32 0x3F800000#32))
      = ((gap (b >>> 9).toNat : ℝ) : EReal) := by
  rw [unit_sub_one, ofBits_tiny]
  unfold gap
  rw [← EReal.coe_strictMono.monotone.map_max]
  split
  · next h =>
    have h0 : (0 : ℝ) < 2 ^ (-126 : ℤ) := by positivity
    rw [h, Nat.cast_zero, zero_div, max_eq_left h0.le]
    rw [log_coe h0, ← EReal.coe_neg, Real.log_zpow]
    congr 1
    push_cast
    ring
  · next h =>
    have h1 : (1 : ℝ) ≤ (b >>> 9).toNat := by exact_mod_cast Nat.one_le_iff_ne_zero.2 h
    have h2 : (2 : ℝ) ^ (-126 : ℤ) ≤ (b >>> 9).toNat / 2 ^ 23 := by
      rw [le_div_iff₀ (by positivity)]
      refine le_trans ?_ h1
      norm_num
    have h0 : (0 : ℝ) < (b >>> 9).toNat / 2 ^ 23 := by positivity
    rw [max_eq_right h2]
    rw [log_coe h0, EReal.coe_neg]

end Cert.Rng

end

end
-- ==== Proof.Select.lean ====
/-
  The sampling, free of any program: the first column whose ratio of weight to number is greatest, as lanes find it tile
  by tile and as the lanes' findings combine; and that it is the first column whose perturbed feature is greatest.
-/
module

public import proofs.«01_k».proof.Proof.Uniform
public import Mathlib.Analysis.Complex.Exponential
public import Mathlib.Tactic.Linarith
public import Mathlib.Tactic.Positivity
public import Mathlib.Tactic.FieldSimp

@[expose] public section

noncomputable section

namespace Cert.Sel

open Cert.Rng Idealize.ShloMosaic

/-- The first index below `N` at which `f` is greatest. -/
def IsFirstMax (N : ℕ) (f : ℕ → ℝ) (a : ℕ) : Prop := a < N ∧ ∀ n < N, f n ≤ f a ∧ (n < a → f n < f a)

theorem IsFirstMax.unique {N : ℕ} {f : ℕ → ℝ} {a b : ℕ} (ha : IsFirstMax N f a) (hb : IsFirstMax N f b) : a = b := by
  rcases lt_trichotomy a b with h | h | h
  · exact absurd ((hb.2 a ha.1).2 h) (not_lt.2 (ha.2 b hb.1).1)
  · exact h
  · exact absurd ((ha.2 b hb.1).2 h) (not_lt.2 (hb.2 a ha.1).1)

theorem exists_firstMax {N : ℕ} (hN : 0 < N) (f : ℕ → ℝ) : ∃ a, IsFirstMax N f a := by
  induction N with
  | zero => exact absurd hN (lt_irrefl 0)
  | succ N ih =>
    rcases Nat.eq_zero_or_pos N with h | h
    · subst h
      exact ⟨0, by omega, fun n hn => by
        have : n = 0 := by omega
        subst this
        exact ⟨le_rfl, fun h => absurd h (lt_irrefl _)⟩⟩
    · obtain ⟨a, ha, hm⟩ := ih h
      by_cases hc : f a < f N
      · refine ⟨N, by omega, fun n hn => ?_⟩
        rcases Nat.lt_succ_iff_lt_or_eq.1 hn with h | h
        · exact ⟨((hm n h).1.trans_lt hc).le, fun _ => (hm n h).1.trans_lt hc⟩
        · subst h; exact ⟨le_rfl, fun h => absurd h (lt_irrefl _)⟩
      · refine ⟨a, by omega, fun n hn => ?_⟩
        rcases Nat.lt_succ_iff_lt_or_eq.1 hn with h | h
        · exact hm n h
        · subst h; exact ⟨not_lt.1 hc, fun h => absurd h (by omega)⟩

/-- The ratio of a column's weight to its number: zero where the number is infinite. -/
def rho (x : ℝ) (d : ℕ) : ℝ := Real.exp x / (num d).toReal

theorem num_cases {d : ℕ} (h : d < 2 ^ 23) : num d = ⊤ ∨ ∃ r : ℝ, 0 < r ∧ num d = (r : EReal) := by
  by_cases h0 : d = 0
  · left; simp [num, h0]
  · right
    refine ⟨-Real.log (d / 2 ^ 23), ?_, by simp [num, h0]⟩
    have h1 : (0 : ℝ) < d := by positivity
    have h2 : (d : ℝ) < 2 ^ 23 := by exact_mod_cast h
    have := Real.log_neg (x := d / 2 ^ 23) (by positivity) (by rw [div_lt_one (by positivity)]; exact h2)
    linarith

theorem div_num (x : ℝ) {d : ℕ} (h : d < 2 ^ 23) :
    Ideal.div ((Real.exp x : ℝ) : EReal) (num d) = ((rho x d : ℝ) : EReal) := by
  unfold rho
  rcases num_cases h with h | ⟨r, hr, h⟩
  · rw [h, Ideal.div, if_neg (by simp), EReal.inv_top, mul_zero, EReal.toReal_top, div_zero, EReal.coe_zero]
  · rw [h, Ideal.div, if_neg (by exact_mod_cast hr.ne'), EReal.toReal_coe, div_eq_mul_inv, EReal.coe_mul, EReal.coe_inv]

theorem rho_nonneg (x : ℝ) {d : ℕ} (h : d < 2 ^ 23) : 0 ≤ rho x d := by
  unfold rho
  rcases num_cases h with h | ⟨r, hr, h⟩
  · rw [h]; simp
  · rw [h, EReal.toReal_coe]; positivity

/-- The kernel's comparison of cross products is the comparison of ratios. -/
theorem cross (x x' : ℝ) {d d' : ℕ} (h : d < 2 ^ 23) (h' : d' < 2 ^ 23) :
    ((Real.exp x : ℝ) : EReal) * num d' < ((Real.exp x' : ℝ) : EReal) * num d ↔ rho x d < rho x' d' := by
  have e := Real.exp_pos x
  have e' := Real.exp_pos x'
  unfold rho
  rcases num_cases h with h | ⟨r, hr, h⟩ <;> rcases num_cases h' with h' | ⟨r', hr', h'⟩
  · rw [h, h', EReal.coe_mul_top_of_pos e, EReal.coe_mul_top_of_pos e']; simp
  · rw [h, h', EReal.coe_mul_top_of_pos e', ← EReal.coe_mul, EReal.toReal_top, div_zero, EReal.toReal_coe]
    exact ⟨fun _ => by positivity, fun _ => EReal.coe_lt_top _⟩
  · rw [h, h', EReal.coe_mul_top_of_pos e, ← EReal.coe_mul, EReal.toReal_top, div_zero, EReal.toReal_coe]
    constructor
    · intro hh; exact absurd hh (not_lt.2 le_top)
    · intro hh; exact absurd hh (not_lt.2 (by positivity))
  · rw [h, h', ← EReal.coe_mul, ← EReal.coe_mul, EReal.coe_lt_coe_iff, EReal.toReal_coe, EReal.toReal_coe,
      div_lt_div_iff₀ hr hr']

/-! ### One lane -/

/-- What a lane holds after `k` of its columns `l, l + 256, …`: the sum of their weights and, from the first on, the
    weight, the number and the tile of the first of them whose ratio is greatest. -/
def LaneInv (x : ℕ → ℝ) (d : ℕ → ℕ) (l k : ℕ) (s wb eb : EReal) (kb : BitVec 32) : Prop :=
  s = ((∑ t ∈ Finset.range k, Real.exp (x (256 * t + l)) : ℝ) : EReal) ∧
    (k = 0 ∧ wb = 0 ∧ eb = 1 ∨
      ∃ t, IsFirstMax k (fun t => rho (x (256 * t + l)) (d (256 * t + l))) t ∧
        wb = ((Real.exp (x (256 * t + l)) : ℝ) : EReal) ∧ eb = num (d (256 * t + l)) ∧ kb = BitVec.ofNat 32 t)

theorem select_ofBool {α : Type} (p : Prop) [Decidable p] (a b : α) :
    Scalar.select (BitVec.ofBool (decide p)) a b = if p then a else b := by
  by_cases h : p <;> simp [Scalar.select, h]

/-- One more column. -/
theorem LaneInv.step {x : ℕ → ℝ} {d : ℕ → ℕ} {l k : ℕ} {s wb eb : EReal} {kb : BitVec 32}
    (hd : ∀ n, d n < 2 ^ 23) (h : LaneInv x d l k s wb eb kb) {w e : EReal} {u : BitVec 1}
    (hw : w = ((Real.exp (x (256 * k + l)) : ℝ) : EReal)) (he : e = num (d (256 * k + l)))
    (hu : u = Ideal.cmp .ogt (w * eb) (wb * e)) :
    LaneInv x d l (k + 1) (s + w) (Scalar.select u w wb) (Scalar.select u e eb)
      (Scalar.select u (BitVec.ofNat 32 k) kb) := by
  obtain ⟨hs, h⟩ := h
  refine ⟨by rw [hs, hw, Finset.sum_range_succ, EReal.coe_add], .inr ?_⟩
  have hu' : u = BitVec.ofBool (decide (wb * e < w * eb)) := hu
  rw [hu', select_ofBool, select_ofBool, select_ofBool]
  rcases h with ⟨rfl, rfl, rfl⟩ | ⟨t, ht, hwb, heb, hkb⟩
  · rw [if_pos, if_pos, if_pos]
    · exact ⟨0, ⟨by omega, fun n hn => by
        have : n = 0 := by omega
        subst this
        exact ⟨le_rfl, fun h => absurd h (lt_irrefl _)⟩⟩, hw, he, rfl⟩
    all_goals
      rw [zero_mul, mul_one, hw]
      exact_mod_cast Real.exp_pos _
  · rw [hw, he, hwb, heb]
    have hc := cross (x (256 * t + l)) (x (256 * k + l)) (hd (256 * t + l)) (hd (256 * k + l))
    by_cases hr : rho (x (256 * t + l)) (d (256 * t + l)) < rho (x (256 * k + l)) (d (256 * k + l))
    · rw [if_pos (hc.2 hr), if_pos (hc.2 hr), if_pos (hc.2 hr)]
      refine ⟨k, ⟨by omega, fun n hn => ?_⟩, rfl, rfl, rfl⟩
      rcases Nat.lt_succ_iff_lt_or_eq.1 hn with h | h
      · exact ⟨((ht.2 n h).1.trans_lt hr).le, fun _ => (ht.2 n h).1.trans_lt hr⟩
      · subst h; exact ⟨le_rfl, fun h => absurd h (lt_irrefl _)⟩
    · rw [if_neg (mt hc.1 hr), if_neg (mt hc.1 hr), if_neg (mt hc.1 hr)]
      refine ⟨t, ⟨by have := ht.1; omega, fun n hn => ?_⟩, rfl, rfl, hkb⟩
      rcases Nat.lt_succ_iff_lt_or_eq.1 hn with h | h
      · exact ht.2 n h
      · subst h; exact ⟨not_lt.1 hr, fun h => absurd h (by have := ht.1; omega)⟩

/-- A lane filled up: a column of weight zero changes nothing. -/
theorem LaneInv.pad {x : ℕ → ℝ} {d : ℕ → ℕ} {l k : ℕ} {s wb eb : EReal} {kb : BitVec 32}
    (hd : ∀ n, d n < 2 ^ 23) (hk : 0 < k) (h : LaneInv x d l k s wb eb kb) {w e : EReal} {u : BitVec 1} (kb' : BitVec 32)
    (hw : w = 0) {n : ℕ} (hn : n < 2 ^ 23) (he : e = num n) (hu : u = Ideal.cmp .ogt (w * eb) (wb * e)) :
    LaneInv x d l k (s + w) (Scalar.select u w wb) (Scalar.select u e eb) (Scalar.select u kb' kb) := by
  have hu' : u = BitVec.ofBool (decide (wb * e < w * eb)) := hu
  rw [hu', select_ofBool, select_ofBool, select_ofBool]
  obtain ⟨hs, h | ⟨t, ht, hwb, heb, hkb⟩⟩ := h
  · omega
  · have : ¬ wb * e < w * eb := by
      rw [hw, zero_mul, hwb, not_lt]
      refine mul_nonneg (by exact_mod_cast (Real.exp_pos _).le) ?_
      rcases num_cases hn with h | ⟨r, hr, h⟩
      · rw [he, h]; exact le_top
      · rw [he, h]; exact_mod_cast hr.le
    rw [if_neg this, if_neg this, if_neg this, hw, add_zero]
    exact ⟨hs, .inr ⟨t, ht, hwb, heb, hkb⟩⟩

/-! ### The lanes together -/

/-- How many of the 100000 columns a lane has. -/
def len (l : ℕ) : ℕ := if l < 160 then 391 else 390

theorem lt_len {n : ℕ} : n / 256 < len (n % 256) ↔ n < 100000 := by
  unfold len; split <;> omega

/-- What the lanes hold at the end, said of columns of the row. -/
theorem lanes {x : ℕ → ℝ} {d : ℕ → ℕ} {s wb eb : Fin 256 → EReal} {kb : Fin 256 → BitVec 32}
    (h : ∀ l : Fin 256, LaneInv x d l (len l) (s l) (wb l) (eb l) (kb l)) :
    ∃ n : Fin 256 → ℕ, ∀ l : Fin 256, n l < 100000 ∧ n l % 256 = l ∧ wb l = ((Real.exp (x (n l)) : ℝ) : EReal) ∧
      eb l = num (d (n l)) ∧ kb l = BitVec.ofNat 32 (n l / 256) ∧
      ∀ m : ℕ, m < 100000 → m % 256 = l.val → rho (x m) (d m) ≤ rho (x (n l)) (d (n l)) ∧
        (m < n l → rho (x m) (d m) < rho (x (n l)) (d (n l))) := by
  have : ∀ l : Fin 256, ∃ n : ℕ, n < 100000 ∧ n % 256 = l ∧ wb l = ((Real.exp (x n) : ℝ) : EReal) ∧
      eb l = num (d n) ∧ kb l = BitVec.ofNat 32 (n / 256) ∧
      ∀ m : ℕ, m < 100000 → m % 256 = l.val → rho (x m) (d m) ≤ rho (x n) (d n) ∧ (m < n → rho (x m) (d m) < rho (x n) (d n)) := by
    intro l
    have hl := l.isLt
    obtain ⟨-, h | ⟨t, ht, hw, he, hk⟩⟩ := h l
    · have := h.1; unfold len at this; split at this <;> omega
    · have h1 : (256 * t + l.val) % 256 = l := by omega
      have h2 : (256 * t + l.val) / 256 = t := by omega
      refine ⟨256 * t + l, ?_, h1, hw, he, by rw [h2]; exact hk, fun m hm hml => ?_⟩
      · rw [← lt_len, h1, h2]; exact ht.1
      · have hm' : m / 256 < len l := by rw [← hml]; exact lt_len.2 hm
        have e : 256 * (m / 256) + l.val = m := by omega
        have := ht.2 (m / 256) hm'
        simp only [e] at this
        exact ⟨this.1, fun hlt => this.2 (by omega)⟩
  exact ⟨fun l => (this l).choose, fun l => (this l).choose_spec⟩

/-- The greatest of the lanes' ratios is the row's. -/
theorem max_lanes {r : Fin 256 → EReal} {f : ℕ → ℝ} {n : Fin 256 → ℕ} {a : ℕ} (ha : IsFirstMax 100000 f a)
    (hn : ∀ l, n l < 100000) (hr : ∀ l, r l = ((f (n l) : ℝ) : EReal)) (l₀ : Fin 256) (h₀ : n l₀ = a) :
    (Finset.univ : Finset (Fin 256)).fold max ⊥ r = ((f a : ℝ) : EReal) := by
  refine le_antisymm ?_ ?_
  · rw [Finset.fold_max_le]
    exact ⟨bot_le, fun l _ => by rw [hr]; exact_mod_cast (ha.2 _ (hn l)).1⟩
  · rw [Finset.le_fold_max]
    exact .inr ⟨l₀, Finset.mem_univ _, by rw [hr, h₀]⟩

theorem minsi_toInt (a b : BitVec 32) : (IntOp.minsi a b).toInt = min a.toInt b.toInt := by
  unfold IntOp.minsi
  rw [BitVec.slt_eq_decide]
  by_cases h : a.toInt < b.toInt
  · simp [h, h.le]
  · simp [h, not_lt.1 h]

theorem fold_minsi_toInt (g : Fin 256 → BitVec 32) (b : BitVec 32) (s : Finset (Fin 256)) :
    (s.fold IntOp.minsi b g).toInt = s.fold min b.toInt (fun l => (g l).toInt) := by
  induction s using Finset.cons_induction with
  | empty => rfl
  | cons l s hl ih => rw [Finset.fold_cons, Finset.fold_cons, minsi_toInt, ih]

theorem toInt_small {n : ℕ} (h : n < 2 ^ 31) : (BitVec.ofNat 32 n).toInt = n := by
  have h1 : (BitVec.ofNat 32 n).toNat = n := by rw [BitVec.toNat_ofNat]; omega
  rw [BitVec.toInt_eq_toNat_of_lt (by rw [h1]; omega), h1]

/-- The least of the words of the lanes that attain it is the row's column. -/
theorem min_lanes {g : Fin 256 → BitVec 32} {n : Fin 256 → ℕ} {a : ℕ} (ha : a < 100000)
    (hg : ∀ l, g l = BitVec.ofNat 32 (n l)) (hle : ∀ l, a ≤ n l ∧ n l ≤ 100000) (l₀ : Fin 256) (h₀ : n l₀ = a) :
    (Finset.univ : Finset (Fin 256)).fold IntOp.minsi 2147483647#32 g = BitVec.ofNat 32 a := by
  apply BitVec.eq_of_toInt_eq
  rw [fold_minsi_toInt]
  refine le_antisymm ?_ ?_
  · rw [Finset.fold_min_le]
    exact .inr ⟨l₀, Finset.mem_univ _, by rw [hg, h₀]⟩
  · rw [Finset.le_fold_min]
    refine ⟨?_, fun l _ => ?_⟩
    · rw [toInt_small (by omega), toInt_small (by omega)]; omega
    · rw [hg, toInt_small (by omega), toInt_small (by have := (hle l).2; omega)]
      exact_mod_cast (hle l).1

/-- The lanes' sums make up the row's. -/
theorem sum_lanes (f : ℕ → ℝ) :
    ∑ l : Fin 256, ((∑ t ∈ Finset.range (len l), f (256 * t + l) : ℝ) : EReal)
      = ((∑ n ∈ Finset.range 100000, f n : ℝ) : EReal) := by
  have h1 : ∀ l : Fin 256, ∑ t ∈ Finset.range (len l), f (256 * t + l)
      = ∑ n ∈ (Finset.range 100000).filter (fun n : ℕ => n % 256 = l.val), f n := by
    intro l
    have hl := l.isLt
    refine Finset.sum_bij' (fun t _ => 256 * t + l.val) (fun n _ => n / 256) ?_ ?_ ?_ ?_ ?_
    · intro t ht
      have h1 : (256 * t + l.val) % 256 = l := by omega
      have h2 : (256 * t + l.val) / 256 = t := by omega
      rw [Finset.mem_filter, Finset.mem_range, ← lt_len, h1, h2]
      exact ⟨Finset.mem_range.1 ht, rfl⟩
    · intro n hn
      rw [Finset.mem_filter, Finset.mem_range] at hn
      rw [Finset.mem_range, ← hn.2]
      exact lt_len.2 hn.1
    · intro t _; show (256 * t + l.val) / 256 = t; omega
    · intro n hn
      rw [Finset.mem_filter] at hn
      show 256 * (n / 256) + l.val = n
      omega
    · intros; rfl
  have h2 : ∑ n ∈ Finset.range 100000, f n
      = ∑ l : Fin 256, ∑ n ∈ (Finset.range 100000).filter (fun n : ℕ => n % 256 = l.val), f n := by
    rw [← Finset.sum_fiberwise_of_maps_to (s := Finset.range 100000) (t := (Finset.univ : Finset (Fin 256)))
      (g := fun n => ⟨n % 256, Nat.mod_lt _ (by decide)⟩) (fun _ _ => Finset.mem_univ _)]
    refine Finset.sum_congr rfl fun l _ => Finset.sum_congr ?_ fun _ _ => rfl
    ext n
    simp [Fin.ext_iff]
  simp only [h1]
  rw [h2]
  exact (map_sum (⟨⟨Real.toEReal, EReal.coe_zero⟩, EReal.coe_add⟩ : ℝ →+ EReal) _ _).symm

/-- What a row's lanes give: the sample's word, its weight, and the sum of all weights. -/
theorem row {x : ℕ → ℝ} {d : ℕ → ℕ} (hd : ∀ n, d n < 2 ^ 23) {s wb eb : Fin 256 → EReal} {kb : Fin 256 → BitVec 32}
    (h : ∀ l : Fin 256, LaneInv x d l (len l) (s l) (wb l) (eb l) (kb l))
    {a : ℕ} (ha : IsFirstMax 100000 (fun n => rho (x n) (d n)) a) :
    (Finset.univ : Finset (Fin 256)).fold IntOp.minsi 2147483647#32 (fun l => Scalar.select
        (Ideal.cmp .oeq (Ideal.div (wb l) (eb l))
          ((Finset.univ : Finset (Fin 256)).fold max ⊥ fun l => Ideal.div (wb l) (eb l)))
        (kb l * 256#32 + BitVec.ofNat 32 l) 100000#32) = BitVec.ofNat 32 a
    ∧ (∑ l : Fin 256, Scalar.select (IntOp.cmpi .eq (kb l * 256#32 + BitVec.ofNat 32 l) (BitVec.ofNat 32 a)) (wb l) 0)
        = ((Real.exp (x a) : ℝ) : EReal)
    ∧ ∑ l : Fin 256, s l = ((∑ n ∈ Finset.range 100000, Real.exp (x n) : ℝ) : EReal) := by
  obtain ⟨n, hn⟩ := lanes h
  have hdiv : ∀ l, Ideal.div (wb l) (eb l) = ((rho (x (n l)) (d (n l)) : ℝ) : EReal) := fun l => by
    rw [(hn l).2.2.1, (hn l).2.2.2.1, div_num _ (hd _)]
  have hg : ∀ l : Fin 256, kb l * 256#32 + BitVec.ofNat 32 l = BitVec.ofNat 32 (n l) := fun l => by
    rw [(hn l).2.2.2.2.1]
    apply BitVec.eq_of_toNat_eq
    have h1 := (hn l).1
    have h2 := (hn l).2.1
    have h3 := l.isLt
    simp only [BitVec.toNat_add, BitVec.toNat_mul, BitVec.toNat_ofNat]
    omega
  set l₀ : Fin 256 := ⟨a % 256, Nat.mod_lt _ (by decide)⟩ with hl₀
  have h₀ : n l₀ = a := by
    have h1 := (hn l₀).2.2.2.2.2 a ha.1 rfl
    have h2 := ha.2 (n l₀) (hn l₀).1
    rcases lt_trichotomy (n l₀) a with h | h | h
    · exact absurd (h2.2 h) (not_lt.2 h1.1)
    · exact h
    · exact absurd (h1.2 h) (not_lt.2 h2.1)
  have hmax := max_lanes (r := fun l => Ideal.div (wb l) (eb l)) ha (fun l => (hn l).1) hdiv l₀ h₀
  refine ⟨?_, ?_, ?_⟩
  · rw [hmax]
    refine min_lanes (n := fun l => if rho (x (n l)) (d (n l)) = rho (x a) (d a) then n l else 100000) ha.1
      (fun l => ?_) (fun l => ?_) l₀ (by simp [h₀])
    · rw [hdiv, hg]
      show Scalar.select (BitVec.ofBool (decide (_ = _))) _ _ = _
      rw [select_ofBool]
      by_cases hc : rho (x (n l)) (d (n l)) = rho (x a) (d a)
      · rw [if_pos (by rw [hc]), if_pos hc]
      · rw [if_neg (by exact_mod_cast hc), if_neg hc]
    · have h1 := (hn l).1
      have h2 := ha.1
      split
      · next hc =>
        refine ⟨not_lt.1 fun hlt => ?_, h1.le⟩
        exact absurd ((ha.2 _ h1).2 hlt) (by exact not_lt.2 hc.ge)
      · omega
  · rw [Finset.sum_eq_single l₀]
    · rw [hg, h₀, (hn l₀).2.2.1, h₀]; simp [IntOp.cmpi, Scalar.select]
    · intro l _ hl
      rw [hg]
      have : ¬ BitVec.ofNat 32 (n l) = BitVec.ofNat 32 a := by
        intro he
        have := congrArg BitVec.toNat he
        simp only [BitVec.toNat_ofNat] at this
        have h1 := (hn l).1
        have h2 := ha.1
        have h3 := (hn l).2.1
        apply hl
        apply Fin.ext
        show l.val = a % 256
        omega
      have hb : (BitVec.ofNat 32 (n l) == BitVec.ofNat 32 a) = false := beq_eq_false_iff_ne.2 this
      simp [IntOp.cmpi, Scalar.select, hb]
    · intro h; exact absurd (Finset.mem_univ _) h
  · rw [← sum_lanes]
    exact Finset.sum_congr rfl fun l _ => (h l).1

/-! ### The same column -/

/-- The perturbed feature. -/
def pert (x : ℝ) (d : ℕ) : ℝ := x - Real.log (gap d)

theorem num_toReal {d : ℕ} (h : d ≠ 0) : (num d).toReal = gap d := by simp [num, gap, h]

theorem pert_eq_log_rho (x : ℝ) {d : ℕ} (h : d < 2 ^ 23) (h0 : d ≠ 0) : pert x d = Real.log (rho x d) := by
  unfold pert rho
  rw [num_toReal h0, Real.log_div (Real.exp_pos x).ne' (gap_pos h).ne', Real.log_exp]

theorem rho_pos (x : ℝ) {d : ℕ} (h : d < 2 ^ 23) (h0 : d ≠ 0) : 0 < rho x d := by
  unfold rho
  rw [num_toReal h0]
  exact div_pos (Real.exp_pos x) (gap_pos h)

/-- A zero draw's column stays below one of a draw this near to one, whatever the two features. -/
theorem pert_zero_lt {x x' : ℝ} (hx : |x| ≤ 7) (hx' : |x'| ≤ 7) {d : ℕ} (hd : d < 2 ^ 23) (hw : 8388198 ≤ d) :
    pert x 0 < pert x' d := by
  have h7 := abs_le.1 hx
  have h7' := abs_le.1 hx'
  have hg := gap_pos hd
  have hd0 : d ≠ 0 := by omega
  have hl2 : (1 : ℝ) / 2 ≤ Real.log 2 := by
    have := Real.one_sub_inv_le_log_of_pos (x := 2) (by norm_num)
    linarith
  have he1 : Real.exp 1 ≤ 2.72 := by
    refine (Real.exp_bound' (x := 1) (by norm_num) le_rfl (n := 5) (by norm_num)).trans ?_
    norm_num [Finset.sum_range_succ, Nat.factorial]
  have hgap : gap d ≤ 410 / 8388198 := by
    unfold gap
    rw [if_neg hd0]
    have hdR : (8388198 : ℝ) ≤ d := by exact_mod_cast hw
    have h1 : -Real.log (d / 2 ^ 23) = Real.log (2 ^ 23 / d) := by
      rw [← Real.log_inv, inv_div]
    rw [h1]
    refine (Real.log_le_sub_one_of_pos (by positivity)).trans ?_
    rw [sub_le_iff_le_add, div_le_iff₀ (by positivity)]
    nlinarith
  have he : Real.exp 14 * gap d < 126 * Real.log 2 := by
    have h1 : Real.exp 14 ≤ 2.72 ^ 14 := by
      have : Real.exp 14 = Real.exp 1 ^ 14 := by rw [← Real.exp_nat_mul]; norm_num
      rw [this]
      exact pow_le_pow_left₀ (Real.exp_pos _).le he1 14
    calc Real.exp 14 * gap d ≤ 2.72 ^ 14 * (410 / 8388198) :=
          mul_le_mul h1 hgap hg.le (by positivity)
      _ < 126 * (1 / 2) := by norm_num
      _ ≤ 126 * Real.log 2 := by linarith
  have hlog : 14 + Real.log (gap d) < Real.log (126 * Real.log 2) := by
    have := Real.log_lt_log (by positivity) he
    rwa [Real.log_mul (Real.exp_pos _).ne' hg.ne', Real.log_exp] at this
  have hz : gap 0 = 126 * Real.log 2 := by simp [gap]
  unfold pert
  rw [hz]
  linarith

/-- The first column of the greatest ratio is the first of the greatest perturbed feature. -/
theorem same {x : ℕ → ℝ} {d : ℕ → ℕ} (hx : ∀ n < 100000, |x n| ≤ 7) (hd : ∀ n, d n < 2 ^ 23) {w : ℕ} (hw : w < 100000)
    (hdw : 8388198 ≤ d w) {a : ℕ} (ha : IsFirstMax 100000 (fun n => rho (x n) (d n)) a) :
    IsFirstMax 100000 (fun n => pert (x n) (d n)) a := by
  have hw0 : d w ≠ 0 := by omega
  have ha0 : d a ≠ 0 := by
    intro h0
    have h1 := (ha.2 w hw).1
    have h2 := rho_pos (x w) (hd w) hw0
    have h3 : rho (x a) (d a) = 0 := by simp [rho, h0, num]
    dsimp only at h1
    linarith
  have hpa := pert_eq_log_rho (x a) (hd a) ha0
  have key : ∀ n < 100000, d n ≠ 0 → pert (x n) (d n) ≤ pert (x a) (d a) ∧ (n < a → pert (x n) (d n) < pert (x a) (d a)) := by
    intro n hn h0
    rw [pert_eq_log_rho (x n) (hd n) h0, hpa]
    have hp := rho_pos (x n) (hd n) h0
    exact ⟨Real.log_le_log hp (ha.2 n hn).1, fun h => Real.log_lt_log hp ((ha.2 n hn).2 h)⟩
  refine ⟨ha.1, fun n hn => ?_⟩
  by_cases h0 : d n = 0
  · have h1 : pert (x n) (d n) < pert (x a) (d a) := by
      rw [h0]
      exact (pert_zero_lt (hx n hn) (hx w hw) (hd w) hdw).trans_le (key w hw hw0).1
    exact ⟨h1.le, fun _ => h1⟩
  · exact key n hn h0

end Cert.Sel

end

end
-- ==== Proof.KRow.lean ====
/-
  A row of the kernel over the extended reals: each lane holds what `Cert.Sel.LaneInv` says after every tile, and so the
  block entries are the sample and its log-probability.
-/
module

public import proofs.«01_k».proof.Proof.KArray
public import proofs.«01_k».proof.Proof.Select
public import Idealize.ShloMosaic.Lib.Pipeline.ValueKit.Tiles

@[expose] public section

set_option maxRecDepth 65536

noncomputable section

namespace Cert.KernelIdeal.Row

open Cert.KernelIdeal Cert.KernelIdeal.Gen Cert.KernelIdeal.Plumb Cert.KernelIdeal.Draws Cert.Rng Cert.Sel Idealize.ShloMosaic

/-- The four rounds and the injection after the twentieth step, from the two words the loop keeps. -/
def last4 (a b : BitVec 32) : BitVec 32 × BitVec 32 :=
  inj 466689008#32 5#32 (rnd 6 (rnd 26 (rnd 15 (b, b ^^^ rot 13 a))))

theorem bits_last (c : BitVec 32) :
    bits c = (last4 (st 20 c).2 (st 21 c).1).1 ^^^ (last4 (st 20 c).2 (st 21 c).1).2 := by
  have e : st 25 c = step 24 (step 23 (step 22 (step 21 (st 21 c)))) := rfl
  have e' : st 21 c = ((st 21 c).1, (st 21 c).1 ^^^ rot 13 (st 20 c).2) := rfl
  have e'' : st 25 c = last4 (st 20 c).2 (st 21 c).1 := by
    rw [e, e']
    generalize (st 20 c).2 = a, (st 21 c).1 = b
    rfl
  rw [bits, e'']

theorem bits_inj (c : BitVec 32) : bits c = ((st 24 c).1 + 466689008#32) ^^^ ((st 24 c).2 + 5#32) := by
  have e : st 25 c = inj 466689008#32 5#32 (st 24 c) := rfl
  rw [bits, e]
  rfl

/-- The numbers of a block of words. -/
def nums (w : IVec S16x256 32) : FVec Ideal S16x256 .f32 :=
  subf (broadcast S16x256 (Scalar.ofBits .f32 0x00000000#32))
    (log (subf (bitcastToFloat .f32 w) (broadcast S16x256 (Scalar.ofBits .f32 0x3F800000#32))))

theorem nums_at (w : IVec S16x256 32) (j : S16x256.Idx) :
    nums w j = Ideal.ofBits .f32 0x00000000#32
        - Ideal.log (Ideal.ofBits .f32 (w j) - Ideal.ofBits .f32 0x3F800000#32) := rfl

/-- A block of words rotated, by the two shift distances. -/
def rots (p q : BitVec 32) (v : IVec S16x256 32) : IVec S16x256 32 :=
  ori (shli v (broadcast S16x256 p)) (shrui v (broadcast S16x256 q))

/-- The mantissas of two blocks of last words. -/
def mant (v w : IVec S16x256 32) : IVec S16x256 32 :=
  ori (shrui (xori (addi v (broadcast S16x256 466689008#32)) (addi w (broadcast S16x256 5#32))) (broadcast S16x256 9#32))
    (broadcast S16x256 1065353216#32)

theorem mant_at (v w : IVec S16x256 32) (j : S16x256.Idx) (a b : BitVec 32) (h0 : v j = a) (h1 : w j = b) :
    mant v w j = ((a + 466689008#32) ^^^ (b + 5#32)) >>> 9 ||| 1065353216#32 := by
  simp only [mant, addi_apply, shrui_apply, ori_apply, xori_apply, broadcast, h0, h1]
  have e : ∀ z : BitVec 32, IntOp.ori (IntOp.shrui .vector z 9#32) 1065353216#32 = z >>> 9 ||| 1065353216#32 := fun _ => rfl
  exact e _

/-- A round on two blocks of words. -/
theorem round_at (v w : IVec S16x256 32) (p q : BitVec 32) (r : ℕ) (j : S16x256.Idx) (s : BitVec 32 × BitVec 32)
    (h0 : v j = s.1) (h1 : w j = s.2) (hr : ∀ z : BitVec 32, IntOp.ori (IntOp.shli .vector z p) (IntOp.shrui .vector z q) = rot r z) :
    addi v w j = (rnd r s).1 ∧ xori (addi v w) (rots p q w) j = (rnd r s).2 := by
  refine ⟨?_, ?_⟩
  · simp only [addi_apply, h0, h1]; rfl
  · simp only [rots, addi_apply, shli_apply, shrui_apply, ori_apply, xori_apply, broadcast, h0, h1, hr]; rfl

theorem pay37_eq (v357 v358 : IVec S16x256 32) :
    k0_pay37 (F := Ideal) v357 v358 13#32
      = (have w1 := xori v358 (rots 13#32 19#32 v357)
         have b1 := addi v358 w1
         have w2 := xori b1 (rots 15#32 17#32 w1)
         have b2 := addi b1 w2
         have w3 := xori b2 (rots 26#32 6#32 w2)
         have b3 := addi b2 w3
         have w4 := xori b3 (rots 6#32 26#32 w3)
         nums (mant b3 w4)) := rfl

theorem pay93_eq (v169 v175 : IVec S16x256 32) : k0_pay93 (F := Ideal) v169 v175 = nums (mant v169 v175) := rfl

theorem pay37_words (v357 v358 : IVec S16x256 32) (j : S16x256.Idx) (a b : BitVec 32) (h0 : v357 j = a) (h1 : v358 j = b) :
    k0_pay37 (F := Ideal) v357 v358 13#32 j
      = Ideal.ofBits .f32 0x00000000#32
        - Ideal.log (Ideal.ofBits .f32 (((last4 a b).1 ^^^ (last4 a b).2) >>> 9 ||| 1065353216#32)
          - Ideal.ofBits .f32 0x3F800000#32) := by
  have hw : xori v358 (rots 13#32 19#32 v357) j = b ^^^ rot 13 a := by
    simp only [rots, shli_apply, shrui_apply, ori_apply, xori_apply, broadcast, h0, h1]; rfl
  have s1 := round_at v358 _ 15#32 17#32 15 j (b, b ^^^ rot 13 a) h1 hw (fun _ => rfl)
  have s2 := round_at _ _ 26#32 6#32 26 j _ s1.1 s1.2 (fun _ => rfl)
  have s3 := round_at _ _ 6#32 26#32 6 j _ s2.1 s2.2 (fun _ => rfl)
  rw [pay37_eq]
  dsimp only
  rw [nums_at, mant_at _ _ j _ _ s3.1 s3.2]
  unfold last4 inj
  rfl

theorem pay93_words (v169 v175 : IVec S16x256 32) (j : S16x256.Idx) (a b : BitVec 32) (h0 : v169 j = a) (h1 : v175 j = b) :
    k0_pay93 (F := Ideal) v169 v175 j
      = Ideal.ofBits .f32 0x00000000#32
        - Ideal.log (Ideal.ofBits .f32 (((a + 466689008#32) ^^^ (b + 5#32)) >>> 9 ||| 1065353216#32)
          - Ideal.ofBits .f32 0x3F800000#32) := by
  rw [pay93_eq, nums_at, mant_at _ _ j _ _ h0 h1]

/-- The number the loop computes of a lane's last words. -/
theorem pay37_at (v357 v358 : IVec S16x256 32) (c : BitVec 32) (j : S16x256.Idx)
    (h0 : v357 j = (st 20 c).2) (h1 : v358 j = (st 21 c).1) :
    k0_pay37 (F := Ideal) v357 v358 13#32 j = num (draw c) := by
  rw [pay37_words v357 v358 j _ _ h0 h1, ← bits_last, num_eq, draw]

/-- The number of the last tile. -/
theorem pay93_at (v169 v175 : IVec S16x256 32) (c : BitVec 32) (j : S16x256.Idx)
    (h0 : v169 j = (st 24 c).1) (h1 : v175 j = (st 24 c).2) :
    k0_pay93 (F := Ideal) v169 v175 j = num (draw c) := by
  rw [pay93_words v169 v175 j _ _ h0 h1, ← bits_inj, num_eq, draw]

theorem ctr_nat (a r l : ℕ) :
    BitVec.ofNat 32 a * 1600000#32 + BitVec.ofNat 32 r * 100000#32 + BitVec.ofNat 32 l
      = BitVec.ofNat 32 (100000 * (16 * a + r) + l) := by
  rw [← BitVec.ofNat_mul, ← BitVec.ofNat_mul, ← BitVec.ofNat_add, ← BitVec.ofNat_add]
  congr 1
  omega

theorem ctr_add (a b : ℕ) : BitVec.ofNat 32 a + BitVec.ofNat 32 b = BitVec.ofNat 32 (a + b) := (BitVec.ofNat_add ..).symm

theorem iota0_at (r : Fin 16) (l : Fin 256) :
    iota .tc S16x256 32 [0] iota_S16x256_d0_w32 (ValueIdx.ix2 r l) = BitVec.ofNat 32 r.val := by
  rw [iota_apply]
  congr 1
  show 0 * 16 + r.val = r.val
  omega

theorem iota1_at (r : Fin 16) (l : Fin 256) :
    iota .tc S16x256 32 [1] iota_S16x256_d1_w32 (ValueIdx.ix2 r l) = BitVec.ofNat 32 l.val := by
  rw [iota_apply]
  congr 1
  show 0 * 256 + l.val = l.val
  omega

theorem pay41_at (t : Fin cfg0.N) (r : Fin 16) (l : Fin 256) :
    k0_pay41 (grid0.coords t) (ValueIdx.ix2 r l) = BitVec.ofNat 32 (100000 * (rowOf t r).val + l.val) := by
  have ht : (grid0.coords t 0).val = t.val := (idx_facts t).2.2.2.2.2.2
  have e : ∀ a b : BitVec 32, Scalar.muli a b = a * b := fun _ _ => rfl
  simp only [k0_pay41, addi_apply, muli_apply, broadcast, ht, e]
  exact (congrArg₂ (fun p q => BitVec.ofNat 32 t.val * 1600000#32 + p * 100000#32 + q) (iota0_at r l) (iota1_at r l)).trans
    (ctr_nat t.val r.val l.val)

theorem trips_eq : k0_t1_loop.trips = 390 := by decide +kernel

theorem iv_eq (k : ℕ) : Scf.iv 0#32 1#32 k = BitVec.ofNat 32 k := by
  unfold Scf.iv
  rw [BitVec.mul_one, BitVec.zero_add]

theorem loopCtr_at (t : Fin cfg0.N) (r : Fin 16) (l : Fin 256) (k : Fin k0_t1_loop.trips) :
    loopCtr (k0_pay41 (grid0.coords t)) k (ValueIdx.ix2 r l)
      = BitVec.ofNat 32 (100000 * (rowOf t r).val + (256 * k.val + l.val)) := by
  rw [loopCtr, pay41_at, iv_eq, ← BitVec.ofNat_mul, ctr_add]
  congr 1
  omega

theorem tailCtr_at (t : Fin cfg0.N) (r : Fin 16) (l : Fin 256) :
    tailCtr (grid0.coords t) (ValueIdx.ix2 r l)
      = BitVec.ofNat 32 (100000 * (rowOf t r).val + (256 * 390 + l.val)) := by
  rw [tailCtr, pay41_at, ctr_add]
  congr 1
  omega

theorem trip_lt (k : Fin k0_t1_loop.trips) : k.val < 390 := lt_of_lt_of_eq k.isLt trips_eq

theorem off_at (k : Fin k0_t1_loop.trips) : k0_off1 k 1 = 256 * k.val := by
  have hk := trip_lt k
  show (Scf.iv 0#32 1#32 k.val * 256#32).toNat = _
  rw [iv_eq, BitVec.toNat_mul, BitVec.toNat_ofNat, BitVec.toNat_ofNat]
  omega

/-- The loop's column of trip `k`. -/
theorem tileAt_at (x0 : Vec Ideal S16x100000 .f32) (k : Fin k0_t1_loop.trips) (r : Fin 16) (l : Fin 256)
    (hn : 256 * k.val + l.val < 100000) :
    tileAt x0 k (ValueIdx.ix2 r l) = x0 (ValueIdx.ix2 r ⟨256 * k.val + l.val, hn⟩) := by
  unfold tileAt
  refine View.ld_unit_apply_of _ _ _ _ _ _ fun a => ?_
  match a with
  | ⟨0, _⟩ => exact (Nat.zero_add r.val).symm
  | ⟨1, _⟩ => exact congrArg (· + l.val) (off_at k).symm

theorem lastTile_at (x0 : Vec Ideal S16x100000 .f32) (r : Fin 16) (l : Fin 256) (hl : l.val < 160) :
    lastTile x0 (ValueIdx.ix2 r l) = x0 (ValueIdx.ix2 r ⟨256 * 390 + l.val, by omega⟩) := by
  unfold lastTile k0_pay49
  refine (concatenate_pair_apply_left (t := S16x256) (s₁ := S16x160) (s₂ := S16x96) (1 : Fin 2) _ _ _ _ rfl
    (ValueIdx.ix2 r (⟨l.val, hl⟩ : Fin 160)) (fun b => ?_)).trans ?_
  · match b with
    | ⟨0, _⟩ => rfl
    | ⟨1, _⟩ => rfl
  · refine View.ld_unit_apply_of _ _ _ _ _ _ fun a => ?_
    match a with
    | ⟨0, _⟩ => show r.val = 0 + r.val; omega
    | ⟨1, _⟩ => show 256 * 390 + l.val = 99840 + l.val; omega

theorem lastTile_pad (x0 : Vec Ideal S16x100000 .f32) (r : Fin 16) (l : Fin 256) (hl : ¬ l.val < 160) :
    lastTile x0 (ValueIdx.ix2 r l) = ⊥ := by
  have h3 := l.isLt
  unfold lastTile k0_pay49
  refine (concatenate_pair_apply_right (t := S16x256) (s₁ := S16x160) (s₂ := S16x96) (1 : Fin 2) _ _ _ _ rfl rfl
    (ValueIdx.ix2 r (⟨l.val - 160, by omega⟩ : Fin 96)) (fun b hb => ?_) ?_).trans ?_
  · match b with
    | ⟨0, _⟩ => rfl
    | ⟨1, _⟩ => exact absurd rfl hb
  · show l.val - 160 + 160 = l.val; omega
  · show Ideal.ofBits .f32 0xFF800000#32 = ⊥
    simp [Ideal.ofBits, Ideal.ieee]

section
variable {t : Fin cfg0.N} {r : Fin 16} {x0 : Vec Ideal S16x100000 .f32} {x : ℕ → ℝ}

/-- The draw of a column of row `R`. -/
abbrev drawOf (R : Fin 128) (n : ℕ) : ℕ := draw (BitVec.ofNat 32 (100000 * R.val + n))

theorem carry_inv (hx : ∀ n : Fin 100000, x0 (ValueIdx.ix2 r n) = ((x n.val : ℝ) : EReal)) (l : Fin 256) (k : ℕ)
    (hk : k ≤ 390) :
    LaneInv x (drawOf (rowOf t r)) l k ((carry (grid0.coords t) x0 k).1 (ValueIdx.ix2 r l))
      ((carry (grid0.coords t) x0 k).2.1 (ValueIdx.ix2 r l)) ((carry (grid0.coords t) x0 k).2.2.1 (ValueIdx.ix2 r l))
      ((carry (grid0.coords t) x0 k).2.2.2 (ValueIdx.ix2 r l)) := by
  have hl := l.isLt
  induction k with
  | zero =>
    refine ⟨?_, .inl ⟨rfl, Ideal.ofBits_zero_f32, Ideal.ofBits_one_f32⟩⟩
    show Ideal.ofBits .f32 0x00000000#32 = _
    simp
  | succ k ih =>
    have h : k < k0_t1_loop.trips := by rw [trips_eq]; omega
    have hn : 256 * k + l.val < 100000 := by omega
    rw [carry, dif_pos h]
    have c := loopCtr_at t r l ⟨k, h⟩
    have hp := pay10_at (k0_pay41 (grid0.coords t)) ⟨k, h⟩ (ValueIdx.ix2 r l)
    have hq := pay11_at (k0_pay41 (grid0.coords t)) ⟨k, h⟩ (ValueIdx.ix2 r l)
    have hp' := pay23_at _ _ _ _ hp hq
    have hq' := pay24_at _ _ _ _ hp hq
    have he := pay37_at _ _ _ _ (pay35_at _ _ _ _ hp' hq') (pay36_at _ _ _ _ hp' hq')
    rw [c] at he
    have hv : tileAt x0 ⟨k, h⟩ (ValueIdx.ix2 r l) = ((x (256 * k + l.val) : ℝ) : EReal) :=
      (tileAt_at x0 ⟨k, h⟩ r l hn).trans (hx _)
    have hw : Ideal.exp (tileAt x0 ⟨k, h⟩ (ValueIdx.ix2 r l)) = ((Real.exp (x (256 * k + l.val)) : ℝ) : EReal) := by
      rw [hv]; rfl
    have hs := (ih (by omega)).step (fun n => draw_lt _) hw he rfl
    rw [← iv_eq k] at hs
    exact hs

/-- What the lanes hold after the last tile, as the kernel names it. -/
theorem final_inv (hx : ∀ n : Fin 100000, x0 (ValueIdx.ix2 r n) = ((x n.val : ℝ) : EReal)) (l : Fin 256) :
    LaneInv x (drawOf (rowOf t r)) l (len l)
      ((final (grid0.coords t) x0).1 (ValueIdx.ix2 r l) + Ideal.exp (lastTile x0 (ValueIdx.ix2 r l)))
      (k0_pay96 (final (grid0.coords t) x0).2.1 (final (grid0.coords t) x0).2.2.1 (lastTile x0) (tailA (grid0.coords t))
        (tailB (grid0.coords t)) (ValueIdx.ix2 r l))
      (Scalar.select (k0_pay95 (final (grid0.coords t) x0).2.1 (final (grid0.coords t) x0).2.2.1 (lastTile x0)
          (tailA (grid0.coords t)) (tailB (grid0.coords t)) (ValueIdx.ix2 r l))
        (k0_pay93 (F := Ideal) (tailA (grid0.coords t)) (tailB (grid0.coords t)) (ValueIdx.ix2 r l))
        ((final (grid0.coords t) x0).2.2.1 (ValueIdx.ix2 r l)))
      (Scalar.select (k0_pay95 (final (grid0.coords t) x0).2.1 (final (grid0.coords t) x0).2.2.1 (lastTile x0)
          (tailA (grid0.coords t)) (tailB (grid0.coords t)) (ValueIdx.ix2 r l))
        390#32 ((final (grid0.coords t) x0).2.2.2 (ValueIdx.ix2 r l))) := by
  have hl := l.isLt
  have h0 := carry_inv (t := t) hx l 390 le_rfl
  have h33 := pay53_at (grid0.coords t) (ValueIdx.ix2 r l)
  have h34 := pay54_at (grid0.coords t) (ValueIdx.ix2 r l)
  have h36 := pay55_at (grid0.coords t) (ValueIdx.ix2 r l)
  have h37 : k0_pay56 (ValueIdx.ix2 r l) = 6#32 := rfl
  have ha := pay67_at _ _ _ _ _ _ h33 h34 h36 h37
  have hb := pay68_at _ _ _ _ _ _ h33 h34 h36 h37
  have ha' := pay79_at _ _ _ _ ha hb
  have hb' := pay80_at _ _ _ _ ha hb
  have he := pay93_at _ _ _ _ (pay91_at _ _ _ _ ha' hb') (pay92_at _ _ _ _ ha' hb')
  rw [tailCtr_at] at he
  have hf : final (grid0.coords t) x0 = carry (grid0.coords t) x0 390 := by rw [final, trips_eq]
  rw [hf]
  by_cases hlt : l.val < 160
  · have hlen : len l = 390 + 1 := by simp [len, hlt]
    have hw : Ideal.exp (lastTile x0 (ValueIdx.ix2 r l)) = ((Real.exp (x (256 * 390 + l.val)) : ℝ) : EReal) := by
      rw [lastTile_at x0 r l hlt, hx]; rfl
    rw [hlen]
    exact h0.step (fun n => draw_lt _) hw he rfl
  · have hlen : len l = 390 := by simp [len, hlt]
    have hw : Ideal.exp (lastTile x0 (ValueIdx.ix2 r l)) = 0 := by rw [lastTile_pad x0 r l hlt]; rfl
    rw [hlen]
    exact h0.pad (fun n => draw_lt _) (by omega) _ hw (draw_lt _) he rfl

theorem lift_at (r : Fin 16) (l : Fin 256) : reduces_S16x256_S16.lift (ValueIdx.ix1 r) l = ValueIdx.ix2 r l := by
  funext b
  match b with
  | ⟨0, _⟩ => rfl
  | ⟨1, _⟩ => rfl

theorem cast_at {α : Type} (v : S16.Idx → α) (r : Fin 16) :
    shapeCast S16x1 v shapeCasts_S16_S16x1 (ValueIdx.ix2 r (0 : Fin 1)) = v (ValueIdx.ix1 r) :=
  shapeCast_apply _ _ _ _ (by rw [Shape.rowMajor_val_one, Shape.rowMajor_val_two]; show r.val = r.val * 1 + 0; omega)

theorem spread_at {α : Type} (v : S16x1.Idx → α) (r : Fin 16) (l : Fin 256) :
    broadcastTo S16x256 v broadcasts_S16x1_S16x256 (ValueIdx.ix2 r l) = v (ValueIdx.ix2 r (0 : Fin 1)) :=
  broadcastTo_apply _ _ _ _ fun a => match a with
    | ⟨0, _⟩ => rfl
    | ⟨1, _⟩ => rfl

/-- A row's maximum. -/
theorem max_at (v : FVec Ideal S16x256 .f32) (hφ) (hacc) (r : Fin 16) :
    multiReduction .maximumf [1] S16 v 0xFF800000#32 reduces_S16x256_S16 hφ hacc (ValueIdx.ix1 r)
      = (Finset.univ : Finset (Fin 256)).fold max ⊥ fun l => v (ValueIdx.ix2 r l) := by
  rw [Ideal.multiReduction_maximumf_single]
  have e : FloatOps.ofBits (F := Ideal) .f32 0xFF800000#32 = (⊥ : EReal) := by
    show Ideal.ofBits .f32 0xFF800000#32 = ⊥
    simp [Ideal.ofBits, Ideal.ieee]
  rw [e]
  congr 1
  funext l
  exact congrArg v (lift_at r l)

/-- A row's sum. -/
theorem sum_at (v : FVec Ideal S16x256 .f32) (hφ) (hacc) (r : Fin 16) :
    multiReduction .add [1] S16 v 0x00000000#32 reduces_S16x256_S16 hφ hacc (ValueIdx.ix1 r)
      = ∑ l : Fin 256, v (ValueIdx.ix2 r l) := by
  rw [Ideal.multiReduction_add_single]
  exact Finset.sum_congr rfl fun l _ => congrArg v (lift_at r l)

/-- A row's signed minimum. -/
theorem min_at (v : IVec S16x256 32) (hacc) (r : Fin 16) :
    multiReductionI .minsi [1] S16 v 2147483647#32 reduces_S16x256_S16 hacc (ValueIdx.ix1 r)
      = (Finset.univ : Finset (Fin 256)).fold IntOp.minsi 2147483647#32 fun l => v (ValueIdx.ix2 r l) := by
  rw [multiReductionI_eq_fold]
  refine (reduces_S16x256_S16.fold_filter_drop_single _ _ v (ValueIdx.ix1 r)).trans ?_
  show (Finset.univ : Finset (Fin 256)).fold IntOp.minsi 2147483647#32 _ = _
  congr 1
  funext l
  exact congrArg v (lift_at r l)

section
variable (v1 v2 : FVec Ideal S16x256 .f32) (v3 : IVec S16x256 32) (v16 : FVec Ideal S16x256 .f32) (va vb : IVec S16x256 32)

/-- A lane's weight, number and trip after the last tile. -/
def lw (r : Fin 16) (l : Fin 256) : EReal := k0_pay96 v1 v2 v16 va vb (ValueIdx.ix2 r l)
def le (r : Fin 16) (l : Fin 256) : EReal :=
  Scalar.select (k0_pay95 v1 v2 v16 va vb (ValueIdx.ix2 r l)) (k0_pay93 (F := Ideal) va vb (ValueIdx.ix2 r l)) (v2 (ValueIdx.ix2 r l))
def lk (r : Fin 16) (l : Fin 256) : BitVec 32 :=
  Scalar.select (k0_pay95 v1 v2 v16 va vb (ValueIdx.ix2 r l)) 390#32 (v3 (ValueIdx.ix2 r l))

theorem pay97_at (r : Fin 16) (l : Fin 256) :
    k0_pay97 Plumb.lanes v1 v2 v3 v16 va vb (ValueIdx.ix2 r l) = lk v1 v2 v3 v16 va vb r l * 256#32 + BitVec.ofNat 32 l :=
  congrArg (fun q => lk v1 v2 v3 v16 va vb r l * 256#32 + q) (iota1_at r l)

theorem pay98_at (r : Fin 16) :
    k0_pay98 Plumb.lanes v1 v2 v3 v16 va vb (ValueIdx.ix2 r (0 : Fin 1))
      = (Finset.univ : Finset (Fin 256)).fold IntOp.minsi 2147483647#32 (fun l => Scalar.select
        (Ideal.cmp .oeq (Ideal.div (lw v1 v2 v16 va vb r l) (le v1 v2 v16 va vb r l))
          ((Finset.univ : Finset (Fin 256)).fold max ⊥ fun l => Ideal.div (lw v1 v2 v16 va vb r l) (le v1 v2 v16 va vb r l)))
        (lk v1 v2 v3 v16 va vb r l * 256#32 + BitVec.ofNat 32 l) 100000#32) := by
  unfold k0_pay98
  dsimp only
  refine (cast_at _ r).trans ((min_at _ _ r).trans ?_)
  congr 1
  funext l
  have hm : broadcastTo S16x256 (shapeCast S16x1 (multiReduction (F := Ideal) .maximumf [1] S16 (divf (k0_pay96 v1 v2 v16 va vb)
      (select (k0_pay95 v1 v2 v16 va vb) (k0_pay93 (F := Ideal) va vb) v2)) 0xFF800000#32 reduces_S16x256_S16 (.inl rfl) rfl)
      shapeCasts_S16_S16x1) broadcasts_S16x1_S16x256 (ValueIdx.ix2 r l)
      = (Finset.univ : Finset (Fin 256)).fold max ⊥ fun l => Ideal.div (lw v1 v2 v16 va vb r l) (le v1 v2 v16 va vb r l) :=
    (spread_at _ r l).trans ((cast_at _ r).trans (max_at _ _ _ r))
  exact congrArg₂ (fun p q => Scalar.select
    (Ideal.cmp .oeq (Ideal.div (lw v1 v2 v16 va vb r l) (le v1 v2 v16 va vb r l)) p) q 100000#32) hm
    (pay97_at v1 v2 v3 v16 va vb r l)

theorem pay99_at (r : Fin 16) (a : BitVec 32) (ha : k0_pay98 Plumb.lanes v1 v2 v3 v16 va vb (ValueIdx.ix2 r (0 : Fin 1)) = a) :
    k0_pay99 Plumb.lanes v1 v2 v3 v16 va vb (ValueIdx.ix2 r (0 : Fin 1))
      = ∑ l : Fin 256, Scalar.select (IntOp.cmpi .eq (lk v1 v2 v3 v16 va vb r l * 256#32 + BitVec.ofNat 32 l) a)
          (lw v1 v2 v16 va vb r l) 0 := by
  unfold k0_pay99
  dsimp only
  refine (cast_at _ r).trans ((sum_at _ _ _ r).trans ?_)
  refine Finset.sum_congr rfl fun l _ => ?_
  refine Eq.trans ?_ (congrArg₂ (fun p q => Scalar.select (IntOp.cmpi .eq p q) (lw v1 v2 v16 va vb r l) 0)
    (pay97_at v1 v2 v3 v16 va vb r l) ((spread_at _ r l).trans ha))
  refine Eq.trans ?_ (congrArg (fun z => Scalar.select _ (lw v1 v2 v16 va vb r l) z) Ideal.ofBits_zero_f32)
  rfl

theorem pay100_at (r : Fin 16) :
    k0_pay100 v1 v16 (ValueIdx.ix2 r (0 : Fin 1))
      = ∑ l : Fin 256, (v1 (ValueIdx.ix2 r l) + Ideal.exp (v16 (ValueIdx.ix2 r l))) := by
  unfold k0_pay100
  dsimp only
  exact (cast_at _ r).trans (sum_at _ _ _ r)

end

/-- The sample's entry. -/
theorem blockA_at (hx : ∀ n : Fin 100000, x0 (ValueIdx.ix2 r n) = ((x n.val : ℝ) : EReal)) {a : ℕ}
    (ha : IsFirstMax 100000 (fun n => rho (x n) (drawOf (rowOf t r) n)) a) :
    blockA (grid0.coords t) x0 (ValueIdx.ix2 r (0 : Fin 1)) = BitVec.ofNat 32 a :=
  (pay98_at _ _ _ _ _ _ r).trans (row (fun n => draw_lt _) (final_inv (t := t) hx) ha).1

/-- The log-probability's entry. -/
theorem blockL_at (hx : ∀ n : Fin 100000, x0 (ValueIdx.ix2 r n) = ((x n.val : ℝ) : EReal)) {a : ℕ}
    (ha : IsFirstMax 100000 (fun n => rho (x n) (drawOf (rowOf t r) n)) a) :
    blockL (grid0.coords t) x0 (ValueIdx.ix2 r (0 : Fin 1))
      = ((Real.log (Real.exp (x a) / ∑ n ∈ Finset.range 100000, Real.exp (x n)) : ℝ) : EReal) := by
  have h := row (fun n => draw_lt _) (final_inv (t := t) hx) ha
  have h1 := (pay99_at _ _ _ _ _ _ r _ (blockA_at (t := t) hx ha)).trans h.2.1
  have h2 := (pay100_at (final (grid0.coords t) x0).1 (lastTile x0) r).trans h.2.2
  have hpos : (0 : ℝ) < ∑ n ∈ Finset.range 100000, Real.exp (x n) :=
    Finset.sum_pos (fun n _ => Real.exp_pos _) ⟨0, Finset.mem_range.2 (by decide)⟩
  show Ideal.log (Ideal.div (k0_pay99 (F := Ideal) _ _ _ _ _ _ _ (ValueIdx.ix2 r (0 : Fin 1))) (k0_pay100 (F := Ideal) _ _ (ValueIdx.ix2 r (0 : Fin 1)))) = _
  rw [h1, h2, Ideal.div_coe hpos.ne', ← EReal.coe_mul, mul_one_div, log_coe (div_pos (Real.exp_pos _) hpos)]

end

end Cert.KernelIdeal.Row

end

end
-- ==== Proof.RefDraw.lean ====
/-
  The reference's random words, entry by entry: after each round of its Threefry the two words of entry `j` are those of
  `Cert.Rng.st` at the entry's counter; and the perturbed features it takes the arg-max of.
-/
module

public import proofs.«01_k».proof.Proof.RefRun
public import proofs.«01_k».proof.Proof.Select

@[expose] public section

set_option maxRecDepth 65536

noncomputable section

namespace Cert.ReferenceIdeal.Draws

open Cert.ReferenceIdeal Cert.ReferenceIdeal.Gen Cert.ReferenceIdeal.Run Cert.Rng Idealize.ShloMosaic Idealize.ShloMosaic.TcCoe Idealize.SL.Sem Idealize.ShloMosaic.StableHlo

/-- One word at every entry. -/
abbrev same (w : BitVec 32) : IVec S128x100000 32 := broadcastInDim S128x100000 ![] bcast_S_S128x100000 (constantI S_ 32 w)

/-- The rotation of a block of words, by the two shift distances. -/
abbrev rots (p q : BitVec 32) (v : IVec S128x100000 32) : IVec S128x100000 32 := ori (Host.shli v (same p)) (Host.shrui v (same q))

/-- At entry `j` the block `X` holds the sum of the two words of `s` and `Y` the second. -/
def Holds (X Y : IVec S128x100000 32) (j : S128x100000.Idx) (s : BitVec 32 × BitVec 32) : Prop := X j = s.1 + s.2 ∧ Y j = s.2

theorem rots_at (p q : BitVec 32) (r : ℕ) (hr : ∀ z : BitVec 32, IntOp.ori (IntOp.shli .host z p) (IntOp.shrui .host z q) = rot r z)
    (v : IVec S128x100000 32) (j : S128x100000.Idx) (z : BitVec 32) (h : v j = z) : rots p q v j = rot r z := by
  rw [← hr, ← h]; rfl

theorem Holds.round {X Y : IVec S128x100000 32} {j : S128x100000.Idx} {s : BitVec 32 × BitVec 32} (h : Holds X Y j s)
    (p q : BitVec 32) (r : ℕ) (hr : ∀ z : BitVec 32, IntOp.ori (IntOp.shli .host z p) (IntOp.shrui .host z q) = rot r z) :
    Holds (addi X (xori X (rots p q Y))) (xori X (rots p q Y)) j (rnd r s) := by
  have h1 : xori X (rots p q Y) j = (rnd r s).2 :=
    congrArg₂ (fun a b => a ^^^ b) h.1 (rots_at p q r hr Y j _ h.2)
  exact ⟨congrArg₂ (fun a b => a + b) h.1 h1, h1⟩

theorem Holds.inject {X Y : IVec S128x100000 32} {j : S128x100000.Idx} {s : BitVec 32 × BitVec 32} (h : Holds X Y j s)
    (p q : BitVec 32) (r : ℕ) (hr : ∀ z : BitVec 32, IntOp.ori (IntOp.shli .host z p) (IntOp.shrui .host z q) = rot r z)
    (a b b' b'' : BitVec 32) (hb : b' + b'' = b) :
    Holds (addi (addi X (same a)) (addi (addi (xori X (rots p q Y)) (same b')) (same b'')))
      (addi (addi (xori X (rots p q Y)) (same b')) (same b'')) j (inj a b (rnd r s)) := by
  have h1 : xori X (rots p q Y) j = (rnd r s).2 :=
    congrArg₂ (fun a b => a ^^^ b) h.1 (rots_at p q r hr Y j _ h.2)
  have h2 : addi (addi (xori X (rots p q Y)) (same b')) (same b'') j = (inj a b (rnd r s)).2 := by
    subst hb
    refine Eq.trans ?_ (BitVec.add_assoc (rnd r s).2 b' b'')
    exact congrArg (fun z => z + b' + b'') h1
  exact ⟨congrArg₂ (fun u v => u + a + v) h.1 h2, h2⟩

variable (V0 : Valuation τ sig (Elt Ideal))

/-- The counter of an entry. -/
def ctr (j : S128x100000.Idx) : BitVec 32 :=
  addi (muli (iotaInDim S128x100000 32 0) (same 100000#32)) (iotaInDim S128x100000 32 1) j

theorem v20_at (j : S128x100000.Idx) : res_main_v20 V0 j = start (ctr j) := rfl

theorem v21_at (j : S128x100000.Idx) : res_main_v21 V0 j = start (ctr j) := by
  show 0#32 + 0#32 + res_main_v20 V0 j = _
  rw [v20_at, BitVec.zero_add, BitVec.zero_add]

theorem h2 (j : S128x100000.Idx) : Holds (res_main_v28 V0) (res_main_v27 V0) j (st 1 (ctr j)) := by
  have h1 : res_main_v27 V0 j = (st 1 (ctr j)).2 :=
    congrArg₂ (fun a b => a ^^^ b) (v21_at V0 j) (rots_at 13#32 19#32 13 (fun _ => rfl) _ j _ (v20_at V0 j))
  exact ⟨congrArg₂ (fun a b => a + b) (v21_at V0 j) h1, h1⟩

theorem h3 (j : S128x100000.Idx) : Holds (res_main_v35 V0) (res_main_v34 V0) j (st 2 (ctr j)) :=
  (h2 V0 j).round 15#32 17#32 15 (fun _ => rfl)

theorem h4 (j : S128x100000.Idx) : Holds (res_main_v42 V0) (res_main_v41 V0) j (st 3 (ctr j)) :=
  (h3 V0 j).round 26#32 6#32 26 (fun _ => rfl)

theorem h6 (j : S128x100000.Idx) : Holds (res_main_v55 V0) (res_main_v54 V0) j (st 5 (ctr j)) :=
  (h4 V0 j).inject 6#32 26#32 6 (fun _ => rfl) 42#32 466689009#32 466689008#32 1#32 (by decide)

theorem h7 (j : S128x100000.Idx) : Holds (res_main_v62 V0) (res_main_v61 V0) j (st 6 (ctr j)) :=
  (h6 V0 j).round 17#32 15#32 17 (fun _ => rfl)

theorem h8 (j : S128x100000.Idx) : Holds (res_main_v69 V0) (res_main_v68 V0) j (st 7 (ctr j)) :=
  (h7 V0 j).round 29#32 3#32 29 (fun _ => rfl)

theorem h9 (j : S128x100000.Idx) : Holds (res_main_v76 V0) (res_main_v75 V0) j (st 8 (ctr j)) :=
  (h8 V0 j).round 16#32 16#32 16 (fun _ => rfl)

theorem h11 (j : S128x100000.Idx) : Holds (res_main_v89 V0) (res_main_v88 V0) j (st 10 (ctr j)) :=
  (h9 V0 j).inject 24#32 8#32 24 (fun _ => rfl) 466689008#32 2#32 0#32 2#32 (by decide)

theorem h12 (j : S128x100000.Idx) : Holds (res_main_v96 V0) (res_main_v95 V0) j (st 11 (ctr j)) :=
  (h11 V0 j).round 13#32 19#32 13 (fun _ => rfl)

theorem h13 (j : S128x100000.Idx) : Holds (res_main_v103 V0) (res_main_v102 V0) j (st 12 (ctr j)) :=
  (h12 V0 j).round 15#32 17#32 15 (fun _ => rfl)

theorem h14 (j : S128x100000.Idx) : Holds (res_main_v110 V0) (res_main_v109 V0) j (st 13 (ctr j)) :=
  (h13 V0 j).round 26#32 6#32 26 (fun _ => rfl)

theorem h16 (j : S128x100000.Idx) : Holds (res_main_v123 V0) (res_main_v122 V0) j (st 15 (ctr j)) :=
  (h14 V0 j).inject 6#32 26#32 6 (fun _ => rfl) 0#32 45#32 42#32 3#32 (by decide)

theorem h17 (j : S128x100000.Idx) : Holds (res_main_v130 V0) (res_main_v129 V0) j (st 16 (ctr j)) :=
  (h16 V0 j).round 17#32 15#32 17 (fun _ => rfl)

theorem h18 (j : S128x100000.Idx) : Holds (res_main_v137 V0) (res_main_v136 V0) j (st 17 (ctr j)) :=
  (h17 V0 j).round 29#32 3#32 29 (fun _ => rfl)

theorem h19 (j : S128x100000.Idx) : Holds (res_main_v144 V0) (res_main_v143 V0) j (st 18 (ctr j)) :=
  (h18 V0 j).round 16#32 16#32 16 (fun _ => rfl)

theorem h21 (j : S128x100000.Idx) : Holds (res_main_v157 V0) (res_main_v156 V0) j (st 20 (ctr j)) :=
  (h19 V0 j).inject 24#32 8#32 24 (fun _ => rfl) 42#32 466689012#32 466689008#32 4#32 (by decide)

theorem h22 (j : S128x100000.Idx) : Holds (res_main_v164 V0) (res_main_v163 V0) j (st 21 (ctr j)) :=
  (h21 V0 j).round 13#32 19#32 13 (fun _ => rfl)

theorem h23 (j : S128x100000.Idx) : Holds (res_main_v171 V0) (res_main_v170 V0) j (st 22 (ctr j)) :=
  (h22 V0 j).round 15#32 17#32 15 (fun _ => rfl)

theorem h24 (j : S128x100000.Idx) : Holds (res_main_v178 V0) (res_main_v177 V0) j (st 23 (ctr j)) :=
  (h23 V0 j).round 26#32 6#32 26 (fun _ => rfl)

/-- The last words, xored: the random word of the entry. -/
theorem last_at (j : S128x100000.Idx) :
    xori (addi (res_main_v178 V0) (same 466689008#32))
      (addi (addi (xori (res_main_v178 V0) (rots 6#32 26#32 (res_main_v177 V0))) (same 0#32)) (same 5#32)) j = bits (ctr j) := by
  have h := h24 V0 j
  have e : st 25 (ctr j) = inj 466689008#32 5#32 (rnd 6 (st 23 (ctr j))) := rfl
  rw [bits, e]
  generalize st 23 (ctr j) = s at h
  have h1 : xori (res_main_v178 V0) (rots 6#32 26#32 (res_main_v177 V0)) j = (rnd 6 s).2 :=
    congrArg₂ (fun a b => a ^^^ b) h.1 (rots_at 6#32 26#32 6 (fun _ => rfl) _ j _ h.2)
  refine Eq.trans (congrArg₂ (fun a b => (a + 466689008#32) ^^^ (b + 0#32 + 5#32)) h.1 h1) ?_
  rw [BitVec.add_zero]
  rfl

/-- The block of random words. -/
def words : IVec S128x100000 32 :=
  xori (addi (res_main_v178 V0) (same 466689008#32))
    (addi (addi (xori (res_main_v178 V0) (rots 6#32 26#32 (res_main_v177 V0))) (same 0#32)) (same 5#32))

/-- The perturbed features of a block of words. -/
def perts (x : FVec Ideal S128x100000 .f32) (w : IVec S128x100000 32) : FVec Ideal S128x100000 .f32 :=
  subf x (Host.log (Host.negf (Host.log (maximumf (broadcastInDim S128x100000 ![] bcast_S_S128x100000 (constant S_ .f32 0x00800000#32))
    (subf (bitcastToFloat (F := Ideal) .f32 (ori (Host.shrui w (same 9#32)) (same 1065353216#32)))
      (broadcastInDim S128x100000 ![] bcast_S_S128x100000 (constant S_ .f32 0x3F800000#32)))))))

theorem perts_at (x : FVec Ideal S128x100000 .f32) (w : IVec S128x100000 32) (j : S128x100000.Idx) :
    perts x w j = x j - Ideal.log (-Ideal.log (max (Ideal.ofBits .f32 0x00800000#32)
      (Ideal.ofBits .f32 (w j >>> 9 ||| 1065353216#32) - Ideal.ofBits .f32 0x3F800000#32))) := rfl

theorem v204_eq : res_main_v204 V0 = perts (V0 (Proc.devRef .tc main_arg0)) (words V0) := rfl

/-- The perturbed feature of an entry whose feature is a real number. -/
theorem v204_at (j : S128x100000.Idx) (x : ℝ) (hx : V0 (Proc.devRef .tc main_arg0) j = (x : EReal)) :
    res_main_v204 V0 j = ((Sel.pert x (draw (ctr j)) : ℝ) : EReal) := by
  rw [v204_eq, perts_at, show words V0 j = bits (ctr j) from last_at V0 j, clip_eq, hx, ← draw, log_coe (gap_pos (draw_lt _))]
  rfl

end Cert.ReferenceIdeal.Draws

end

end
-- ==== Proof.RefArg.lean ====
/-
  The reference's arg-max over the extended reals: over a row of real numbers, the position of the row's first maximum.
-/
module

public import proofs.«01_k».proof.Proof.RefDraw
public import Idealize.ShloMosaic.Lib.ValueIdx

@[expose] public section

set_option maxRecDepth 65536

noncomputable section

namespace Cert.ReferenceIdeal.ArgMax

open Cert.ReferenceIdeal Cert.ReferenceIdeal.Gen Cert.Rng Cert.Sel Idealize.ShloMosaic

/-- A position with its value. -/
def at' (f : ℕ → ℝ) (n : ℕ) : EReal × BitVec 32 := (((f n : ℝ) : EReal), BitVec.ofNat 32 n)

/-- The better of two positions: the larger value, the lower position at a tie. -/
def better (f : ℕ → ℝ) (a n : ℕ) : ℕ := if f n < f a ∨ (f a = f n ∧ a < n) then a else n

theorem slt_nat {a n : ℕ} (ha : a < 100000) (hn : n < 100000) :
    IntOp.cmpi .slt (BitVec.ofNat 32 a) (BitVec.ofNat 32 n) = BitVec.ofBool (decide (a < n)) := by
  show BitVec.ofBool ((BitVec.ofNat 32 a).slt (BitVec.ofNat 32 n)) = _
  congr 1
  rw [BitVec.slt_eq_decide, BitVec.toInt_eq_toNat_cond, BitVec.toInt_eq_toNat_cond, BitVec.toNat_ofNat, BitVec.toNat_ofNat]
  apply decide_eq_decide.2
  rw [Nat.mod_eq_of_lt (by omega), Nat.mod_eq_of_lt (by omega), if_pos (by omega), if_pos (by omega)]
  omega

/-- The reduction's body picks the better of two positions. -/
theorem reducer_at (f : ℕ → ℝ) {a n : ℕ} (ha : a < 100000) (hn : n < 100000) :
    reducer_argmax_f32_i32 (F := Ideal) (at' f a) (at' f n) = at' f (better f a n) := by
  have e : reducer_argmax_f32_i32 (F := Ideal) (at' f a) (at' f n)
      = (Scalar.select (IntOp.ori (Ideal.cmp .ogt (f a : EReal) (f n : EReal)) (Ideal.cmp .une (f a : EReal) (f a : EReal))) (f a : EReal) (f n : EReal),
        Scalar.select (IntOp.ori (IntOp.ori (Ideal.cmp .ogt (f a : EReal) (f n : EReal)) (Ideal.cmp .une (f a : EReal) (f a : EReal)))
          (IntOp.andi (Ideal.cmp .oeq (f a : EReal) (f n : EReal)) (IntOp.cmpi .slt (BitVec.ofNat 32 a) (BitVec.ofNat 32 n))))
          (BitVec.ofNat 32 a) (BitVec.ofNat 32 n)) := rfl
  rw [e, slt_nat ha hn]
  unfold better at'
  rcases lt_trichotomy (f a) (f n) with h | h | h
  · simp [Ideal.cmp, h.le, h.ne, h.not_gt, Scalar.select, IntOp.ori, IntOp.andi]
  · by_cases h2 : a < n
    · simp [Ideal.cmp, h, h2, Scalar.select, IntOp.ori, IntOp.andi]
    · simp [Ideal.cmp, h, h2, Scalar.select, IntOp.ori, IntOp.andi]
  · simp [Ideal.cmp, h, h.ne', Scalar.select, IntOp.ori, IntOp.andi]

/-- Below every real number the initial pair gives way. -/
theorem reducer_bot (f : ℕ → ℝ) (n : ℕ) : reducer_argmax_f32_i32 (F := Ideal) (⊥, 0#32) (at' f n) = at' f n := by
  have e : reducer_argmax_f32_i32 (F := Ideal) (⊥, 0#32) (at' f n)
      = (Scalar.select (IntOp.ori (Ideal.cmp .ogt ⊥ (f n : EReal)) (Ideal.cmp .une (⊥ : EReal) ⊥)) ⊥ (f n : EReal),
        Scalar.select (IntOp.ori (IntOp.ori (Ideal.cmp .ogt ⊥ (f n : EReal)) (Ideal.cmp .une (⊥ : EReal) ⊥))
          (IntOp.andi (Ideal.cmp .oeq ⊥ (f n : EReal)) (IntOp.cmpi .slt 0#32 (BitVec.ofNat 32 n))))
          0#32 (BitVec.ofNat 32 n)) := rfl
  rw [e]
  unfold at'
  simp [Ideal.cmp, Scalar.select, IntOp.ori, IntOp.andi]

/-- Folding from a position. -/
theorem fold_at (f : ℕ → ℝ) (L : List ℕ) (hL : ∀ n ∈ L, n < 100000) (a : ℕ) (ha : a < 100000) :
    ∃ b, (b = a ∨ b ∈ L) ∧ (L.map (at' f)).foldl (reducer_argmax_f32_i32 (F := Ideal)) (at' f a) = at' f b
      ∧ ∀ n, n = a ∨ n ∈ L → f n ≤ f b ∧ (n < b → f n < f b) := by
  induction L generalizing a with
  | nil =>
    refine ⟨a, .inl rfl, rfl, fun n hn => ?_⟩
    rcases hn with rfl | hn
    · exact ⟨le_rfl, fun h => absurd h (lt_irrefl _)⟩
    · simp at hn
  | cons c L ih =>
    have hc := hL c (by simp)
    have hb : better f a c < 100000 := by unfold better; split <;> assumption
    obtain ⟨b, hb1, hb2, hb3⟩ := ih (fun n hn => hL n (by simp [hn])) _ hb
    refine ⟨b, ?_, ?_, fun n hn => ?_⟩
    · rcases hb1 with rfl | h
      · unfold better; split
        · exact .inl rfl
        · right; simp
      · right; simp [h]
    · rw [List.map_cons, List.foldl_cons, reducer_at f ha hc, hb2]
    · by_cases hnL : n ∈ L
      · exact hb3 n (.inr hnL)
      · obtain ⟨h1, h2⟩ := hb3 _ (.inl rfl)
        have hn' : n = a ∨ n = c := by
          rcases hn with h | h
          · exact .inl h
          · rcases List.mem_cons.1 h with h | h
            · exact .inr h
            · exact absurd h hnL
        unfold better at h1 h2
        split at h1
        · rename_i hif
          rw [if_pos hif] at h2
          rcases hn' with rfl | rfl
          · exact ⟨h1, h2⟩
          · rcases hif with hlt | ⟨heq, hlt⟩
            · exact ⟨hlt.le.trans h1, fun _ => hlt.trans_le h1⟩
            · exact ⟨heq ▸ h1, fun h => heq ▸ h2 (hlt.trans h)⟩
        · rename_i hif
          rw [if_neg hif] at h2
          rcases hn' with rfl | rfl
          · push Not at hif
            rcases lt_or_eq_of_le hif.1 with hlt | heq
            · exact ⟨hlt.le.trans h1, fun _ => hlt.trans_le h1⟩
            · exact ⟨heq ▸ h1, fun h => heq ▸ h2 ((hif.2 heq).trans_lt h)⟩
          · exact ⟨h1, h2⟩

/-- Folding a list that holds every position below `100000` finds the first maximum. -/
theorem fold_firstMax (f : ℕ → ℝ) (L : List ℕ) (hL : ∀ n, n ∈ L ↔ n < 100000) :
    ∃ a, IsFirstMax 100000 f a
      ∧ (L.map (at' f)).foldl (reducer_argmax_f32_i32 (F := Ideal)) (⊥, 0#32) = at' f a := by
  cases L with
  | nil => simpa using (hL 0).2 (by decide)
  | cons c L =>
    have hc := (hL c).1 (by simp)
    obtain ⟨b, hb1, hb2, hb3⟩ := fold_at f L (fun n hn => (hL n).1 (by simp [hn])) c hc
    refine ⟨b, ⟨(hL b).1 (List.mem_cons.2 hb1), fun n hn => hb3 n (List.mem_cons.1 ((hL n).2 hn))⟩, ?_⟩
    rw [List.map_cons, List.foldl_cons, reducer_bot, hb2]

theorem drop_at (i : S128x100000.Idx) : (reducesTo_S128x100000_S128_d1.drop i 0).val = (i 0).val :=
  Shape.ReducesTo.drop_apply_val_of_eq reducesTo_S128x100000_S128_d1 i 0 0

/-- The arg-max's second result, row by row. -/
theorem argReduce_at (x : FVec Ideal S128x100000 .f32) (R : Fin 128) (f : ℕ → ℝ)
    (hx : ∀ n : Fin 100000, x (ValueIdx.ix2 R n) = ((f n.val : ℝ) : EReal)) :
    ∃ a, IsFirstMax 100000 f a
      ∧ (Host.argReduce reducer_argmax_f32_i32 x (iotaInDim S128x100000 32 1) (constant S_ .f32 0xFF800000#32) (constantI S_ 32 0#32)
          reducesTo_S128x100000_S128_d1 h_S_ (ValueIdx.ix1 R)).2 = BitVec.ofNat 32 a := by
  rw [Ideal.argReduce_eq_reduce2, Host.reduce2_eq_foldl_fiber, Host.argReduceFiber]
  set K := (List.finRange S128x100000.numel).filter
    fun n => reducesTo_S128x100000_S128_d1.drop (S128x100000.rowMajor.symm n) = ValueIdx.ix1 R with hK
  have hrow : ∀ i : S128x100000.Idx, reducesTo_S128x100000_S128_d1.drop i = ValueIdx.ix1 R ↔ i 0 = R := by
    intro i
    constructor
    · intro h
      have := congrArg (fun z => (z 0).val) h
      exact Fin.ext ((drop_at i).symm.trans this)
    · intro h
      funext b
      match b with
      | ⟨0, _⟩ => exact Fin.ext ((drop_at i).trans (congrArg Fin.val h))
  have hmap : K.map (fun n => (x (S128x100000.rowMajor.symm n), iotaInDim S128x100000 32 1 (S128x100000.rowMajor.symm n)))
      = (K.map fun n => (S128x100000.rowMajor.symm n 1).val).map (at' f) := by
    rw [List.map_map]
    refine List.map_congr_left fun n hn => ?_
    have h0 : S128x100000.rowMajor.symm n 0 = R := (hrow _).1 (by simpa [hK] using hn)
    refine Prod.ext ?_ rfl
    have e : S128x100000.rowMajor.symm n = ValueIdx.ix2 R (S128x100000.rowMajor.symm n 1) := by
      rw [← h0]; exact ValueIdx.eq_ix2 _
    exact (congrArg x e).trans (hx _)
  obtain ⟨a, ha, he⟩ := fold_firstMax f (K.map fun n => (S128x100000.rowMajor.symm n 1).val) (fun n => by
    constructor
    · intro h
      obtain ⟨k, -, rfl⟩ := List.mem_map.1 h
      exact (S128x100000.rowMajor.symm k 1).isLt
    · intro h
      refine List.mem_map.2 ⟨S128x100000.rowMajor (ValueIdx.ix2 R (⟨n, h⟩ : Fin 100000)), ?_, ?_⟩
      · rw [hK, List.mem_filter]
        refine ⟨List.mem_finRange _, ?_⟩
        rw [Equiv.symm_apply_apply]
        exact decide_eq_true ((hrow _).2 rfl)
      · rw [Equiv.symm_apply_apply])
  refine ⟨a, ha, ?_⟩
  have hb : FloatOps.ofBits (F := Ideal) .f32 0xFF800000#32 = (⊥ : EReal) := by
    show Ideal.ofBits .f32 0xFF800000#32 = ⊥
    simp [Ideal.ofBits, Ideal.ieee]
  have hi : ((constant (F := Ideal) S_ .f32 0xFF800000#32) (Shape.Idx.first h_S_), (constantI S_ 32 0#32) (Shape.Idx.first h_S_))
      = ((⊥ : EReal), 0#32) := Prod.ext hb rfl
  rw [hmap, hi, he]
  rfl

end Cert.ReferenceIdeal.ArgMax

end

end
-- ==== Proof.RefRow.lean ====
/-
  The reference's results over the extended reals, row by row: the sample is the first maximum of the perturbed features,
  and the second result is the logarithm of the sample's softmax.
-/
module

public import proofs.«01_k».proof.Proof.RefArg
public import Idealize.ShloMosaic.Lib.ReduceAll
public import Idealize.ShloMosaic.Lib.DynamicIndex

@[expose] public section

set_option maxRecDepth 65536

noncomputable section

namespace Cert.ReferenceIdeal.Row

open Cert.ReferenceIdeal Cert.ReferenceIdeal.Gen Cert.ReferenceIdeal.Run Cert.ReferenceIdeal.Draws Cert.ReferenceIdeal.ArgMax Cert.Rng Cert.Sel
open Idealize.ShloMosaic Idealize.ShloMosaic.TcCoe Idealize.SL.Sem Idealize.ShloMosaic.StableHlo

theorem ctr_at (R : Fin 128) (n : Fin 100000) : ctr (ValueIdx.ix2 R n) = BitVec.ofNat 32 (100000 * R.val + n.val) := by
  have e : ctr (ValueIdx.ix2 R n) = BitVec.ofNat 32 R.val * BitVec.ofNat 32 100000 + BitVec.ofNat 32 n.val := rfl
  rw [e, ← BitVec.ofNat_mul, ← BitVec.ofNat_add, Nat.mul_comm]

/-- The gather reads each row at its own start index. -/
theorem gather_at {α : Type} (v : S128x100000.Idx → α) (idx : IVec S128x1x1 32) (R : Fin 128) (n : Fin 100000)
    (h : (idx (ValueIdx.ix3 R (0 : Fin 1) (0 : Fin 1))).toInt.toNat = n.val) :
    Host.gather gather_S128x100000_S128x1x1_S128x1_n_1_0_0_1_2_11 v idx (ValueIdx.ix2 R (0 : Fin 1)) = v (ValueIdx.ix2 R n) := by
  unfold Host.gather
  congr 1
  funext a
  refine Fin.ext ?_
  show gather_S128x100000_S128x1x1_S128x1_n_1_0_0_1_2_11.start (ValueIdx.ix2 R (0 : Fin 1)) idx a
    + gather_S128x100000_S128x1x1_S128x1_n_1_0_0_1_2_11.batchCoord (ValueIdx.ix2 R (0 : Fin 1)) a
    + gather_S128x100000_S128x1x1_S128x1_n_1_0_0_1_2_11.offCoord (ValueIdx.ix2 R (0 : Fin 1)) a = _
  have h01 : a = 0 ∨ a = 1 := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S128x100000_S128x1x1_S128x1_n_1_0_0_1_2_11.operandBatchingDims from
      List.mem_singleton.mpr rfl)]
    rfl
  · rw [GatherDims.batchCoord_eq_zero _ _ _ (fun h => absurd (List.mem_singleton.1 h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S128x100000_S128x1x1_S128x1_n_1_0_0_1_2_11.startIndexMap from
      List.mem_singleton.mpr rfl)]
    have hsi : gather_S128x100000_S128x1x1_S128x1_n_1_0_0_1_2_11.siIdx (ValueIdx.ix2 R (0 : Fin 1))
        ⟨List.idxOf (1 : Fin 2) gather_S128x100000_S128x1x1_S128x1_n_1_0_0_1_2_11.startIndexMap,
          List.idxOf_lt_length_iff.2 (List.mem_singleton.mpr rfl)⟩ = ValueIdx.ix3 R (0 : Fin 1) (0 : Fin 1) := by
      funext b; refine Fin.ext ?_
      match b with
      | ⟨0, _⟩ => rfl
      | ⟨1, _⟩ => rfl
      | ⟨2, _⟩ => rfl
    rw [hsi, h]
    exact Nat.min_eq_left (by have := n.isLt; show n.val ≤ 100000 - 1; omega)

/-- The fold of a nonempty set of real numbers by the maximum is a real number. -/
theorem max_real {ι : Type} (s : Finset ι) (hs : s.Nonempty) (f : ι → ℝ) :
    ∃ M : ℝ, s.fold max (⊥ : EReal) (fun i => ((f i : ℝ) : EReal)) = ((M : ℝ) : EReal) := by
  induction hs using Finset.Nonempty.cons_induction with
  | singleton a => exact ⟨f a, by simp⟩
  | cons a s h hs ih =>
    obtain ⟨M, hM⟩ := ih
    exact ⟨max (f a) M, by rw [Finset.fold_cons, hM, EReal.coe_strictMono.monotone.map_max]⟩

theorem red : S128x100000.Reduces [1] S128 := by decide

theorem lift_at (R : Fin 128) (n : Fin 100000) : red.lift (ValueIdx.ix1 R) n = ValueIdx.ix2 R n := by
  funext b
  match b with
  | ⟨0, _⟩ => rfl
  | ⟨1, _⟩ => rfl

theorem reduceMax_at (x : FVec Ideal S128x100000 .f32) (R : Fin 128) :
    Host.reduce (FloatOps.maximumf (F := Ideal) (φ := .f32)) x (constant (F := Ideal) S_ .f32 0xFF800000#32) reducesTo_S128x100000_S128_d1 h_S_ (ValueIdx.ix1 R)
      = (Finset.univ : Finset (Fin 100000)).fold max ⊥ fun n => x (ValueIdx.ix2 R n) := by
  have hb : FloatOps.ofBits (F := Ideal) .f32 0xFF800000#32 = (⊥ : EReal) := by
    show Ideal.ofBits .f32 0xFF800000#32 = ⊥
    simp [Ideal.ofBits, Ideal.ieee]
  show Host.reduce (max : EReal → EReal → EReal) x (fun _ => FloatOps.ofBits (F := Ideal) .f32 0xFF800000#32) reducesTo_S128x100000_S128_d1 h_S_ (ValueIdx.ix1 R) = _
  rw [hb, Host.reduce_eq_fold, Shape.ReducesTo.drop_eq_drop _ red]
  refine (red.fold_filter_drop_single _ _ x (ValueIdx.ix1 R)).trans ?_
  congr 1
  funext n
  exact congrArg x (lift_at R n)

theorem reduceAdd_at (x : FVec Ideal S128x100000 .f32) (R : Fin 128) :
    Host.reduceAdd x (constant (F := Ideal) S_ .f32 0x00000000#32) reducesTo_S128x100000_S128_d1 h_S_ (ValueIdx.ix1 R)
      = ∑ n : Fin 100000, x (ValueIdx.ix2 R n) := by
  show Ideal.hostReduceAdd reducesTo_S128x100000_S128_d1 x (Ideal.ofBits .f32 0x00000000#32) (ValueIdx.ix1 R) = _
  rw [Ideal.hostReduceAdd_single _ red, Ideal.ofBits_zero_f32, zero_add]
  exact Finset.sum_congr rfl fun n _ => congrArg x (lift_at R n)

theorem col_at {α : Type} (v : S128.Idx → α) (R : Fin 128) :
    broadcastInDim S128x1 ![0] bcast_S128_S128x1_0 v (ValueIdx.ix2 R (0 : Fin 1)) = v (ValueIdx.ix1 R) := by
  refine congrArg v (?_ : _ = ValueIdx.ix1 R)
  funext b
  match b with
  | ⟨0, _⟩ => rfl

theorem wide_at {α : Type} (v : S128x1.Idx → α) (R : Fin 128) (n : Fin 100000) :
    broadcastInDim S128x100000 ![0, 1] bcast_S128x1_S128x100000_0_1 v (ValueIdx.ix2 R n) = v (ValueIdx.ix2 R (0 : Fin 1)) := by
  refine congrArg v (?_ : _ = ValueIdx.ix2 R (0 : Fin 1))
  funext b
  match b with
  | ⟨0, _⟩ => rfl
  | ⟨1, _⟩ => rfl

/-- A start index that is not negative is kept, and its array gains an axis. -/
theorem wrap_at (w : IVec S128x1 32) (R : Fin 128) {a : ℕ} (ha : a < 100000) (hw : w (ValueIdx.ix2 R (0 : Fin 1)) = BitVec.ofNat 32 a) :
    shapeCast S128x1x1 (select (cmpi .slt w (broadcastInDim S128x1 ![] bcast_S_S128x1 (constantI S_ 32 0#32)))
      (addi w (broadcastInDim S128x1 ![] bcast_S_S128x1 (constantI S_ 32 100000#32))) w) shapeCasts_S128x1_S128x1x1
      (ValueIdx.ix3 R (0 : Fin 1) (0 : Fin 1)) = BitVec.ofNat 32 a := by
  refine (shapeCast_apply _ _ _ (ValueIdx.ix2 R (0 : Fin 1)) ?_).trans ?_
  · rw [Shape.rowMajor_val_two, Shape.rowMajor_val_three]
    show R.val * 1 + 0 = (R.val * 1 + 0) * 1 + 0
    omega
  · refine Eq.trans ?_ hw
    show Scalar.select (IntOp.cmpi .slt (w (ValueIdx.ix2 R (0 : Fin 1))) 0#32) _ (w (ValueIdx.ix2 R (0 : Fin 1))) = _
    have h0 : IntOp.cmpi .slt (BitVec.ofNat 32 a) 0#32 = 0#1 := by
      rw [slt_nat ha (by decide : 0 < 100000)]; simp
    rw [hw, h0]
    rfl

/-- The exponentials of the features less their row's maximum. -/
def exps (v : FVec Ideal S128x100000 .f32) : FVec Ideal S128x100000 .f32 :=
  Host.exp (subf v (broadcastInDim S128x100000 ![0, 1] bcast_S128x1_S128x100000_0_1 (broadcastInDim S128x1 ![0] bcast_S128_S128x1_0
    (maximumf (broadcastInDim S128 ![] bcast_S_S128 (constant S_ .f32 0xFF800000#32))
      (Host.reduce FloatOps.maximumf v (constant S_ .f32 0xFF800000#32) reducesTo_S128x100000_S128_d1 h_S_)))))

/-- The logarithm of the rows' softmax. -/
def logp (v : FVec Ideal S128x100000 .f32) : FVec Ideal S128x100000 .f32 :=
  Host.log (Host.divf (exps v) (broadcastInDim S128x100000 ![0, 1] bcast_S128x1_S128x100000_0_1 (broadcastInDim S128x1 ![0] bcast_S128_S128x1_0
    (Host.reduceAdd (exps v) (constant S_ .f32 0x00000000#32) reducesTo_S128x100000_S128_d1 h_S_))))

theorem rowMax_at (v : FVec Ideal S128x100000 .f32) (R : Fin 128) (x : ℕ → ℝ)
    (hx : ∀ n : Fin 100000, v (ValueIdx.ix2 R n) = ((x n.val : ℝ) : EReal)) :
    ∃ M : ℝ, Host.reduce (FloatOps.maximumf (F := Ideal) (φ := .f32)) v (constant (F := Ideal) S_ .f32 0xFF800000#32)
      reducesTo_S128x100000_S128_d1 h_S_ (ValueIdx.ix1 R) = ((M : ℝ) : EReal) := by
  obtain ⟨M, hM⟩ := max_real (Finset.univ : Finset (Fin 100000)) ⟨⟨0, Nat.succ_pos 99999⟩, Finset.mem_univ _⟩ (fun n => x n.val)
  exact ⟨M, (reduceMax_at v R).trans ((Finset.fold_congr fun n _ => hx n).trans hM)⟩

theorem clamp_at (w : FVec Ideal S128 .f32) (R : Fin 128) {M : ℝ} (hw : w (ValueIdx.ix1 R) = (M : EReal)) :
    maximumf (broadcastInDim S128 ![] bcast_S_S128 (constant (F := Ideal) S_ .f32 0xFF800000#32)) w (ValueIdx.ix1 R) = (M : EReal) := by
  have hb : Ideal.ofBits .f32 0xFF800000#32 = (⊥ : EReal) := by simp [Ideal.ofBits, Ideal.ieee]
  show max (Ideal.ofBits .f32 0xFF800000#32) (w (ValueIdx.ix1 R)) = _
  rw [hb, hw]
  exact max_eq_right bot_le

theorem shift_at (v w : FVec Ideal S128x100000 .f32) (j : S128x100000.Idx) {x M : ℝ} (hv : v j = (x : EReal)) (hw : w j = (M : EReal)) :
    Host.exp (subf v w) j = ((Real.exp (x - M) : ℝ) : EReal) := by
  show Ideal.exp (v j - w j) = _
  rw [hv, hw, ← EReal.coe_sub]
  rfl

theorem exps_at (v : FVec Ideal S128x100000 .f32) (R : Fin 128) (x : ℕ → ℝ)
    (hx : ∀ n : Fin 100000, v (ValueIdx.ix2 R n) = ((x n.val : ℝ) : EReal)) :
    ∃ M : ℝ, ∀ n : Fin 100000, exps v (ValueIdx.ix2 R n) = ((Real.exp (x n.val - M) : ℝ) : EReal) := by
  obtain ⟨M, hM⟩ := rowMax_at v R x hx
  refine ⟨M, fun n => ?_⟩
  unfold exps
  exact shift_at v _ (ValueIdx.ix2 R n) (hx n) ((wide_at _ R n).trans ((col_at _ R).trans (clamp_at _ R hM)))

theorem logRatio_at (v w : FVec Ideal S128x100000 .f32) (j : S128x100000.Idx) {e s : ℝ} (he : 0 < e) (hs : 0 < s)
    (hv : v j = (e : EReal)) (hw : w j = (s : EReal)) : Host.log (Host.divf v w) j = ((Real.log (e / s) : ℝ) : EReal) := by
  show Ideal.log (Ideal.div (v j) (w j)) = _
  rw [hv, hw, Ideal.div_coe hs.ne', ← EReal.coe_mul, mul_one_div, log_coe (div_pos he hs)]

theorem rowSum_at (v : FVec Ideal S128x100000 .f32) (R : Fin 128) (e : ℕ → ℝ)
    (he : ∀ n : Fin 100000, v (ValueIdx.ix2 R n) = ((e n.val : ℝ) : EReal)) :
    Host.reduceAdd v (constant (F := Ideal) S_ .f32 0x00000000#32) reducesTo_S128x100000_S128_d1 h_S_ (ValueIdx.ix1 R)
      = ((∑ k ∈ Finset.range 100000, e k : ℝ) : EReal) := by
  rw [reduceAdd_at, Finset.sum_congr rfl fun n _ => he n, Finset.sum_range]
  exact (map_sum (⟨⟨Real.toEReal, EReal.coe_zero⟩, EReal.coe_add⟩ : ℝ →+ EReal) _ _).symm

theorem ratio_shift (s : Finset ℕ) (x : ℕ → ℝ) (n : ℕ) (M : ℝ) :
    Real.exp (x n - M) / ∑ k ∈ s, Real.exp (x k - M) = Real.exp (x n) / ∑ k ∈ s, Real.exp (x k) := by
  simp only [Real.exp_sub, ← Finset.sum_div]
  rw [div_div_div_cancel_right₀ (Real.exp_pos M).ne']

theorem sum_exp_pos {N : ℕ} (hN : 0 < N) (f : ℕ → ℝ) : (0 : ℝ) < ∑ k ∈ Finset.range N, Real.exp (f k) :=
  Finset.sum_pos (fun n _ => Real.exp_pos _) ⟨0, Finset.mem_range.2 hN⟩

theorem logp_at (v : FVec Ideal S128x100000 .f32) (R : Fin 128) (x : ℕ → ℝ)
    (hx : ∀ n : Fin 100000, v (ValueIdx.ix2 R n) = ((x n.val : ℝ) : EReal)) (n : Fin 100000) :
    logp v (ValueIdx.ix2 R n)
      = ((Real.log (Real.exp (x n.val) / ∑ k ∈ Finset.range 100000, Real.exp (x k)) : ℝ) : EReal) := by
  obtain ⟨M, h6⟩ := exps_at v R x hx
  have hS := rowSum_at (exps v) R (fun k => Real.exp (x k - M)) h6
  have hpos := sum_exp_pos (Nat.succ_pos 99999) (fun k => x k - M)
  unfold logp
  refine (logRatio_at (exps v) _ (ValueIdx.ix2 R n) (Real.exp_pos _) hpos (h6 n) ((wide_at _ R n).trans ((col_at _ R).trans hS))).trans ?_
  exact congrArg (fun r : ℝ => ((Real.log r : ℝ) : EReal)) (ratio_shift _ x n.val M)

/-- The second result's node, at start indices in range. -/
theorem take_at (v : FVec Ideal S128x100000 .f32) (w : IVec S128x1x1 32) (a : Fin 128 → ℕ) (ha : ∀ R, a R < 100000)
    (hw : ∀ R, w (ValueIdx.ix3 R (0 : Fin 1) (0 : Fin 1)) = BitVec.ofNat 32 (a R)) (R : Fin 128) :
    select (Host.reduce IntOp.andi (andi (cmpi .sge w (broadcastInDim S128x1x1 ![] bcast_S_S128x1x1 (constantI S_ 32 0#32))) (cmpi .sle w (broadcastInDim S128x1x1 ![0, 1, 2] bcast_S1x1x1_S128x1x1_0_1_2 (broadcastInDim S1x1x1 ![2] bcast_S1_S1x1x1_2 (constantI S1 32 99999#32))))) (constantI S_ 1 1#1) reducesTo_S128x1x1_S128x1_d2 h_S_) (Host.gather gather_S128x100000_S128x1x1_S128x1_n_1_0_0_1_2_11 v w) (broadcastInDim S128x1 ![] bcast_S_S128x1 (constant (F := Ideal) S_ .f32 0x7FC00000#32)) (ValueIdx.ix2 R (0 : Fin 1))
      = v (ValueIdx.ix2 R ⟨a R, ha R⟩) := by
  have hin : ∀ i : S128x1x1.Idx, andi (cmpi .sge w (broadcastInDim S128x1x1 ![] bcast_S_S128x1x1 (constantI S_ 32 0#32))) (cmpi .sle w (broadcastInDim S128x1x1 ![0, 1, 2] bcast_S1x1x1_S128x1x1_0_1_2 (broadcastInDim S1x1x1 ![2] bcast_S1_S1x1x1_2 (constantI S1 32 99999#32)))) i = 1#1 := by
    intro i
    have hi : i = ValueIdx.ix3 (i 0 : Fin 128) (0 : Fin 1) (0 : Fin 1) := by
      funext b
      match b with
      | ⟨0, _⟩ => rfl
      | ⟨1, _⟩ => exact Subsingleton.elim (α := Fin 1) _ _
      | ⟨2, _⟩ => exact Subsingleton.elim (α := Fin 1) _ _
    have hwi : w i = BitVec.ofNat 32 (a (i 0)) := (congrArg w hi).trans (hw _)
    show IntOp.andi (IntOp.cmpi .sge (w i) 0#32) (IntOp.cmpi .sle (w i) 99999#32) = 1#1
    rw [hwi]
    have hlt := ha (i 0)
    generalize a (i 0) = z at hlt
    rw [IntOp.andi_eq_one]
    constructor
    · rw [IntOp.cmpi_sge, toInt_ofNat_of_lt (by omega : z < 2 ^ 31)]
      exact Int.natCast_nonneg z
    · rw [IntOp.cmpi_sle, toInt_ofNat_of_lt (by omega : z < 2 ^ 31)]
      show (z : ℤ) ≤ 99999
      omega
  have hone := Host.reduce_andi_one _ (constantI S_ 1 1#1) reducesTo_S128x1x1_S128x1_d2 h_S_ (ValueIdx.ix2 R (0 : Fin 1)) rfl hin
  refine (congrArg (fun c => Scalar.select c (Host.gather gather_S128x100000_S128x1x1_S128x1_n_1_0_0_1_2_11 v w (ValueIdx.ix2 R (0 : Fin 1)))
    (broadcastInDim S128x1 ![] bcast_S_S128x1 (constant (F := Ideal) S_ .f32 0x7FC00000#32) (ValueIdx.ix2 R (0 : Fin 1)))) hone).trans ?_
  refine Eq.trans (if_pos rfl) ?_
  exact gather_at v w R ⟨a R, ha R⟩ (by rw [hw, toInt_ofNat_of_lt (by have := ha R; omega)]; rfl)

/-- The draw of a column of row `R`. -/
abbrev drawOf (R : Fin 128) (n : ℕ) : ℕ := draw (BitVec.ofNat 32 (100000 * R.val + n))

section
variable (V0 : Valuation τ sig (Elt Ideal))

theorem v205_eq : res_main_v205 V0 = fun j => (Host.argReduce reducer_argmax_f32_i32 (res_main_v204 V0) (iotaInDim S128x100000 32 1)
    (constant S_ .f32 0xFF800000#32) (constantI S_ 32 0#32) reducesTo_S128x100000_S128_d1 h_S_ j).2 := rfl

theorem call1_v5_eq : res_main_call1_v5 V0 = shapeCast S128x1x1 (select (cmpi .slt (broadcastInDim S128x1 ![0] bcast_S128_S128x1_0 (res_main_v205 V0))
      (broadcastInDim S128x1 ![] bcast_S_S128x1 (constantI S_ 32 0#32)))
      (addi (broadcastInDim S128x1 ![0] bcast_S128_S128x1_0 (res_main_v205 V0)) (broadcastInDim S128x1 ![] bcast_S_S128x1 (constantI S_ 32 100000#32)))
      (broadcastInDim S128x1 ![0] bcast_S128_S128x1_0 (res_main_v205 V0))) shapeCasts_S128x1_S128x1x1 := rfl

theorem v6_eq : res_main_v6 V0 = exps (V0 (Proc.devRef .tc main_arg0)) := rfl

/-- A perturbed feature. -/
theorem pert_at (R : Fin 128) (n : Fin 100000) (x : ℝ) (hx : V0 (Proc.devRef .tc main_arg0) (ValueIdx.ix2 R n) = (x : EReal)) :
    res_main_v204 V0 (ValueIdx.ix2 R n) = ((pert x (drawOf R n.val) : ℝ) : EReal) := by
  refine (v204_at V0 _ x hx).trans ?_
  rw [ctr_at]

/-- The sample of a row. -/
theorem sample_at (R : Fin 128) (x : ℕ → ℝ)
    (hx : ∀ n : Fin 100000, V0 (Proc.devRef .tc main_arg0) (ValueIdx.ix2 R n) = ((x n.val : ℝ) : EReal))
    {a : ℕ} (ha : IsFirstMax 100000 (fun n => pert (x n) (drawOf R n)) a) :
    res_main_v205 V0 (ValueIdx.ix1 R) = BitVec.ofNat 32 a := by
  obtain ⟨b, hb, he⟩ := argReduce_at (res_main_v204 V0) R (fun n => pert (x n) (drawOf R n)) (fun n => pert_at V0 R n _ (hx n))
  rw [ha.unique hb, v205_eq]
  exact he

/-- The start index of a row. -/
theorem start_at (R : Fin 128) {a : ℕ} (ha : a < 100000) (h : res_main_v205 V0 (ValueIdx.ix1 R) = BitVec.ofNat 32 a) :
    res_main_call1_v5 V0 (ValueIdx.ix3 R (0 : Fin 1) (0 : Fin 1)) = BitVec.ofNat 32 a := by
  rw [call1_v5_eq]
  exact wrap_at _ R ha ((col_at _ R).trans h)

end

end Cert.ReferenceIdeal.Row

end

end
-- ==== Proof.Near.lean ====
/-
  In every row some draw lies within 410·2⁻²³ of one: a column per row, and its draw evaluated.
-/
module

public import proofs.«01_k».proof.Proof.Threefry

@[expose] public section

namespace Cert.Rng

/-- A column of each row whose draw is that near to one. -/
def near : List ℕ :=
  [59469, 38259, 69600, 27910, 69343, 6784, 25705, 24483, 26639, 33386, 30457, 40870, 78185, 45648, 28283, 5509,
   17906, 11619, 46124, 6518, 7335, 49288, 24234, 69025, 31631, 23149, 85454, 32180, 68907, 58682, 65526, 91754,
   79288, 51131, 8050, 64816, 65389, 90946, 20679, 64615, 50910, 30874, 37075, 27, 25815, 63129, 25100, 93358,
   26348, 31721, 34048, 22813, 77898, 97789, 90270, 74955, 97173, 19447, 52927, 18770, 95835, 16057, 48912, 25982,
   5068, 77742, 16691, 82033, 26556, 16054, 7568, 56901, 99157, 28618, 32971, 55225, 58317, 52049, 46546, 70824,
   45051, 95695, 75558, 80364, 29025, 64466, 94109, 82159, 44331, 27681, 47513, 66343, 2640, 18756, 21074, 78508,
   82291, 66410, 29667, 84988, 32737, 19006, 96376, 50420, 61652, 84016, 19146, 10005, 59793, 95951, 32140, 812,
   81701, 61938, 22536, 9635, 65692, 79145, 48237, 97382, 47228, 61503, 36793, 72655, 1571, 21752, 21414, 51843]

theorem near_spec : ∀ R : Fin 128, near.getD R.val 0 < 100000 ∧
    8388198 ≤ draw (BitVec.ofNat 32 (100000 * R.val + near.getD R.val 0)) := by
  decide +kernel

end Cert.Rng

end
-- ==== Proof.Agree.lean ====
/-
  The kernel's two arrays and the reference's two results, entry by entry, when the features are real numbers of magnitude
  at most seven: each row's sample is the same column, and its log-probability the same real number.
-/
module

public import proofs.«01_k».proof.Proof.KRow
public import proofs.«01_k».proof.Proof.RefRow
public import proofs.«01_k».proof.Proof.Near

@[expose] public section

set_option maxRecDepth 65536

noncomputable section

namespace Cert.Agree

open Idealize.ShloMosaic Idealize.ShloMosaic.StableHlo Idealize.ShloMosaic.TcCoe Idealize.SL.Sem Cert.Rng Cert.Sel

/-- The draw of a column of row `R`. -/
abbrev drawOf (R : Fin 128) (n : ℕ) : ℕ := draw (BitVec.ofNat 32 (100000 * R.val + n))

/-- Where features have magnitude at most seven and some draw is large, one column is the first maximum under both perturbations. -/
theorem sampled_of {x : ℕ → ℝ} {d : ℕ → ℕ} (hx : ∀ n < 100000, |x n| ≤ 7) (hd : ∀ n, d n < 2 ^ 23)
    (hw : ∃ w, w < 100000 ∧ 8388198 ≤ d w) :
    ∃ a, IsFirstMax 100000 (fun n => rho (x n) (d n)) a ∧ IsFirstMax 100000 (fun n => pert (x n) (d n)) a := by
  obtain ⟨w, hw, hdw⟩ := hw
  obtain ⟨a, ha⟩ := exists_firstMax (N := 100000) (by norm_num) (fun n => rho (x n) (d n))
  exact ⟨a, ha, same hx hd hw hdw ha⟩

theorem drawOf_lt (R : Fin 128) (n : ℕ) : drawOf R n < 2 ^ 23 := draw_lt _

/-- Every row has a large draw. -/
theorem large_draw (R : Fin 128) : ∃ w, w < 100000 ∧ 8388198 ≤ drawOf R w :=
  Exists.intro (near.getD R.val 0) (near_spec R)

/-- A row of features of magnitude at most seven has one column that is the first maximum under both perturbations. -/
theorem sampled (R : Fin 128) {x : ℕ → ℝ} (hx : ∀ n < 100000, |x n| ≤ 7) :
    ∃ a, IsFirstMax 100000 (fun n => rho (x n) (drawOf R n)) a ∧ IsFirstMax 100000 (fun n => pert (x n) (drawOf R n)) a :=
  sampled_of hx (drawOf_lt R) (large_draw R)

section Kernel
open Cert.KernelIdeal Cert.KernelIdeal.Gen Cert.KernelIdeal.Plumb

variable (m : (ℓ : Loc nD τ sig) → Buf (Elt Ideal) ℓ) (c : Dev nD)

/-- The kernel's two arrays at a row, from the row's features and its sampled column. -/
theorem kernel_at (R : Fin 128) {x : ℕ → ℝ} (hx : ∀ n : Fin 100000, feats m c (ValueIdx.ix2 R n) = ((x n.val : ℝ) : EReal))
    {a : ℕ} (ha : IsFirstMax 100000 (fun n => rho (x n) (drawOf R n)) a) :
    (dats m 0 c).arrAt 1 cfg0.N (ValueIdx.ix2 R (0 : Fin 1)) = BitVec.ofNat 32 a
      ∧ (dats m 0 c).arrAt 2 cfg0.N (ValueIdx.ix2 R (0 : Fin 1))
        = ((Real.log (Real.exp (x a) / ∑ k ∈ Finset.range 100000, Real.exp (x k)) : ℝ) : EReal) := by
  obtain ⟨t, r, rfl⟩ := exists_rowOf R
  exact ⟨(arr1_at m c t r).trans (Row.blockA_at (fun n => (iblk_at m c t r n).trans (hx n)) ha),
    (arr2_at m c t r).trans (Row.blockL_at (fun n => (iblk_at m c t r n).trans (hx n)) ha)⟩

end Kernel

section Reference
open Cert.ReferenceIdeal Cert.ReferenceIdeal.Gen Cert.ReferenceIdeal.Run

/-- The reference's first result. -/
def refSample (V0 : Valuation τ sig (Elt Ideal)) : IVec S128x1 32 := broadcastInDim S128x1 ![0] bcast_S128_S128x1_0 (res_main_v205 V0)

/-- The reference's second result. -/
def refLog (V0 : Valuation τ sig (Elt Ideal)) : FVec Ideal S128x1 .f32 :=
  select (Host.reduce IntOp.andi (andi (cmpi .sge (res_main_call1_v5 V0) (broadcastInDim S128x1x1 ![] bcast_S_S128x1x1 (constantI S_ 32 0#32))) (cmpi .sle (res_main_call1_v5 V0) (broadcastInDim S128x1x1 ![0, 1, 2] bcast_S1x1x1_S128x1x1_0_1_2 (broadcastInDim S1x1x1 ![2] bcast_S1_S1x1x1_2 (constantI S1 32 99999#32))))) (constantI S_ 1 1#1) reducesTo_S128x1x1_S128x1_d2 h_S_) (Host.gather gather_S128x100000_S128x1x1_S128x1_n_1_0_0_1_2_11 (Row.logp (V0 (Proc.devRef .tc main_arg0))) (res_main_call1_v5 V0)) (broadcastInDim S128x1 ![] bcast_S_S128x1 (constant (F := Ideal) S_ .f32 0x7FC00000#32))

/-- The reference's two results at a row, from the features and the sampled columns. -/
theorem reference_at (V0 : Valuation τ sig (Elt Ideal)) {x : Fin 128 → ℕ → ℝ}
    (hx : ∀ R (n : Fin 100000), V0 (Proc.devRef .tc main_arg0) (ValueIdx.ix2 R n) = ((x R n.val : ℝ) : EReal))
    {a : Fin 128 → ℕ} (ha : ∀ R, IsFirstMax 100000 (fun n => pert (x R n) (drawOf R n)) (a R)) (R : Fin 128) :
    refSample V0 (ValueIdx.ix2 R (0 : Fin 1)) = BitVec.ofNat 32 (a R)
      ∧ refLog V0 (ValueIdx.ix2 R (0 : Fin 1))
        = ((Real.log (Real.exp (x R (a R)) / ∑ k ∈ Finset.range 100000, Real.exp (x R k)) : ℝ) : EReal) := by
  have hs := fun R => Row.sample_at V0 R (x R) (hx R) (ha R)
  refine ⟨(Row.col_at _ R).trans (hs R), ?_⟩
  refine (Row.take_at _ _ a (fun R => (ha R).1) (fun R => Row.start_at V0 R (ha R).1 (hs R)) R).trans ?_
  exact Row.logp_at _ R (x R) (hx R) ⟨a R, (ha R).1⟩

end Reference

/-- An index of a column array is a row and the one column. -/
theorem idx_eq (j : (⟨2, ![128, 1]⟩ : Shape).Idx) : j = ValueIdx.ix2 (j 0 : Fin 128) (0 : Fin 1) := by
  funext b
  match b with
  | ⟨0, _⟩ => rfl
  | ⟨1, _⟩ => exact Subsingleton.elim (α := Fin 1) _ _

/-- The kernel's arrays are the reference's results, when both read one array of features, real and of magnitude at most seven. -/
theorem arrays_eq (m : (ℓ : Loc KernelIdeal.nD KernelIdeal.τ KernelIdeal.sig) → Buf (Elt Ideal) ℓ) (c : Dev KernelIdeal.nD)
    (V0 : Valuation ReferenceIdeal.τ ReferenceIdeal.sig (Elt Ideal)) {x : Fin 128 → ℕ → ℝ}
    (hK : ∀ R (n : Fin 100000), KernelIdeal.Plumb.feats m c (ValueIdx.ix2 R n) = ((x R n.val : ℝ) : EReal))
    (hR : ∀ R (n : Fin 100000), V0 (Proc.devRef .tc ReferenceIdeal.main_arg0) (ValueIdx.ix2 R n) = ((x R n.val : ℝ) : EReal))
    (hb : ∀ R, ∀ n < 100000, |x R n| ≤ 7) :
    (KernelIdeal.Gen.dats m 0 c).arrAt 1 KernelIdeal.cfg0.N = refSample V0
      ∧ (KernelIdeal.Gen.dats m 0 c).arrAt 2 KernelIdeal.cfg0.N = refLog V0 := by
  choose a hρ hp using fun R => sampled R (hb R)
  constructor
  · funext j
    rw [idx_eq j]
    exact (kernel_at m c _ (hK _) (hρ _)).1.trans (reference_at V0 hR hp _).1.symm
  · funext j
    rw [idx_eq j]
    exact (kernel_at m c _ (hK _) (hρ _)).2.trans (reference_at V0 hR hp _).2.symm

end Cert.Agree

end
-- ==== Proof.lean ====
/-
  The proof of `Cert.Claim`: the frames of the kernel, of its idealization and of the reference, that the idealization keeps
  the kernel's text, and that over the extended reals the idealization and the reference give equal arrays.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_bounded
public import proofs.«01_k».proof.Proof.Gen.KernelIdeal.Value
public import proofs.«01_k».proof.Proof.RefRun
public import proofs.«01_k».proof.Proof.Bounded
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem

/-- The reference runs, leaves its argument as it was, and has no semaphore to leave at another value than zero. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD,
        r.2.mem ((c.tc : Thread ReferenceIdeal.nD ReferenceIdeal.τ).loc ReferenceIdeal.main_arg0)
          = m ((c.tc : Thread ReferenceIdeal.nD ReferenceIdeal.τ).loc ReferenceIdeal.main_arg0))
        ∧ r.2.sem = fun _ => 0) :=
  θ_run_mono (ReferenceIdeal.Run.run m g) fun r h => ⟨fun c => (h c).2.2, sem_eq_zero_of_no_sems rfl r.2⟩

/-- The kernel's arrays are the reference's results, on every device, from memories that agree on the features. -/
theorem results_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (hpre : Cert.Pre_KernelIdeal_bounded m)
    (hagree : ∀ c : Dev KernelIdeal.nD, m' ((c.tc : Thread ReferenceIdeal.nD ReferenceIdeal.τ).loc ReferenceIdeal.main_arg0)
      = m ((c.tc : Thread KernelIdeal.nD KernelIdeal.τ).loc KernelIdeal.main_arg0)) (c : Dev KernelIdeal.nD) :
    (KernelIdeal.Gen.dats m 0 c).arrAt 1 KernelIdeal.cfg0.N = Agree.refSample (launchContents m' c)
      ∧ (KernelIdeal.Gen.dats m 0 c).arrAt 2 KernelIdeal.cfg0.N = Agree.refLog (launchContents m' c) := by
  obtain ⟨x, hx, hb⟩ := Pre_bounded.features_real (hpre c)
  exact Agree.arrays_eq m c (launchContents m' c) hx (fun R n => (congrFun (hagree c) (ValueIdx.ix2 R n)).trans (hx R n)) hb

/-- Over the extended reals the kernel and the reference give equal arrays. -/
theorem values : Cert.algebraic_KernelIdeal_ReferenceIdeal_pre_bounded := by
  intro m g m' g' hpre hagree
  refine ⟨fun c => (KernelIdeal.Gen.dats m 0 c).arrAt 1 KernelIdeal.cfg0.N, fun c => (KernelIdeal.Gen.dats m 0 c).arrAt 2 KernelIdeal.cfg0.N,
    KernelIdeal.Value.run_blocks m g, ?_⟩
  refine θ_run_mono (ReferenceIdeal.Run.run m' g') fun r h c => ?_
  have e := results_eq m m' hpre hagree c
  exact ⟨(h c).1.trans e.1.symm, (h c).2.1.trans e.2.symm, (h c).2.2⟩

theorem claim : Cert.Claim :=
  ⟨Cert.Kernel.Gen.facts, Cert.KernelIdeal.Gen.facts, Cert.ReferenceIdeal.Gen.facts, Cert.Pre_bounded.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, values⟩

end Cert.Proof

end
